-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_and_in_range : Cert.Pre_finite_and_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1024x4096 : Shape := ⟨2, ![1024, 4096]⟩
abbrev S1000x64 : Shape := ⟨2, ![1000, 64]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x4096 .f32) (main_arg1 : FVec F S1000x64 .f32) (main_arg2 : IVec S1000x64 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1000x64 .f32 := Host.absf main_arg1
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_c_2 : IVec S_ 32 := constantI S_ 32 0#32
  let main_v9 : IVec S1000x64 32 := broadcastInDim S1000x64 ![] bcast_S_S1000x64 main_c_2
  let main_v10 : IVec S1000x64 1 := cmpi .sge main_arg2 main_v9
  let main_c_3 : IVec S_ 1 := constantI S_ 1 1#1
  let main_v11 : IVec S_ 1 := (fun x v => Host.reduce IntOp.andi x v reducesTo_S1000x64_S_d0_1 h_S_) main_v10 main_c_3
  let main_v12 : IVec S_ 1 := andi main_v8 main_v11
  let main_c_4 : IVec S_ 32 := constantI S_ 32 4096#32
  let main_v13 : IVec S1000x64 32 := broadcastInDim S1000x64 ![] bcast_S_S1000x64 main_c_4
  let main_v14 : IVec S1000x64 1 := cmpi .slt main_arg2 main_v13
  let main_c_5 : IVec S_ 1 := constantI S_ 1 1#1
  let main_v15 : IVec S_ 1 := (fun x v => Host.reduce IntOp.andi x v reducesTo_S1000x64_S_d0_1 h_S_) main_v14 main_c_5
  fn_part1 (F := F) main_v12 main_v15
-- ==== Pre_in_range.lean ====
abbrev S1024x4096 : Shape := ⟨2, ![1024, 4096]⟩
abbrev S1000x64 : Shape := ⟨2, ![1000, 64]⟩
abbrev S_ : Shape := ⟨0, ![]⟩

class Facts : Prop where
  bcast_S_S1000x64 : S_.BroadcastsInDim S1000x64 (![] : Fin 0 → Fin S1000x64.rank)
  reducesTo_S1000x64_S_d0_1 : S1000x64.ReducesTo [0, 1] S_
  h_S_ : 0 < S_.numel

variable [Facts]

def fn {F : FTy → Type} [FloatOps F] (main_arg0 : FVec F S1024x4096 .f32) (main_arg1 : FVec F S1000x64 .f32) (main_arg2 : IVec S1000x64 32) : IVec S_ 1 :=
  let main_c : IVec S_ 32 := constantI S_ 32 0#32
  let main_v0 : IVec S1000x64 32 := broadcastInDim S1000x64 ![] bcast_S_S1000x64 main_c
  let main_v1 : IVec S1000x64 1 := cmpi .sge main_arg2 main_v0
  let main_c_0 : IVec S_ 1 := constantI S_ 1 1#1
  let main_v2 : IVec S_ 1 := (fun x v => Host.reduce IntOp.andi x v reducesTo_S1000x64_S_d0_1 h_S_) main_v1 main_c_0
  let main_c_1 : IVec S_ 32 := constantI S_ 32 4096#32
  let main_v3 : IVec S1000x64 32 := broadcastInDim S1000x64 ![] bcast_S_S1000x64 main_c_1
  let main_v4 : IVec S1000x64 1 := cmpi .slt main_arg2 main_v3
  let main_c_2 : IVec S_ 1 := constantI S_ 1 1#1
  let main_v5 : IVec S_ 1 := (fun x v => Host.reduce IntOp.andi x v reducesTo_S1000x64_S_d0_1 h_S_) main_v4 main_c_2
  let main_v6 : IVec S_ 1 := andi main_v2 main_v5
  main_v6
-- ==== Kernel.lean ====
abbrev S1024x4096 : Shape := ⟨2, ![1024, 4096]⟩
abbrev S1000x64 : Shape := ⟨2, ![1000, 64]⟩
abbrev S_ : Shape := ⟨0, ![]⟩
abbrev S1024x64 : Shape := ⟨2, ![1024, 64]⟩
abbrev S64x16x64 : Shape := ⟨3, ![64, 16, 64]⟩
abbrev S64x64x16 : Shape := ⟨3, ![64, 64, 16]⟩
abbrev S65536 : Shape := ⟨1, ![65536]⟩
abbrev S4194304 : Shape := ⟨1, ![4194304]⟩
abbrev S1024 : Shape := ⟨1, ![1024]⟩
abbrev S16 : Shape := ⟨1, ![16]⟩
abbrev S1024x1024 : Shape := ⟨2, ![1024, 1024]⟩
abbrev S256x4096 : Shape := ⟨2, ![256, 4096]⟩
abbrev S1024x256 : Shape := ⟨2, ![1024, 256]⟩
abbrev S1024x1000 : Shape := ⟨2, ![1024, 1000]⟩

abbrev nBuf : Table → Nat
  | .hbm => 19
  | .local .tc .vmem => 5
  | .local .scVector .vmem => 3
  | _ => 0

abbrev bufTy : (tb : Table) → Fin (nBuf tb) → BufTy
  | .hbm, ⟨0, _⟩ => ⟨S1024x4096, .f32⟩
  | .hbm, ⟨1, _⟩ => ⟨S1000x64, .f32⟩
  | .hbm, ⟨2, _⟩ => ⟨S1000x64, .i32⟩
  | .hbm, ⟨3, _⟩ => ⟨S_, .i32⟩
  | .hbm, ⟨4, _⟩ => ⟨S_, .i32⟩
  | .hbm, ⟨5, _⟩ => ⟨S1024x64, .i32⟩
  | .hbm, ⟨6, _⟩ => ⟨S64x16x64, .i32⟩
  | .hbm, ⟨7, _⟩ => ⟨S64x64x16, .i32⟩
  | .hbm, ⟨8, _⟩ => ⟨S65536, .i32⟩
  | .hbm, ⟨9, _⟩ => ⟨S_, .i32⟩
  | .hbm, ⟨10, _⟩ => ⟨S_, .f32⟩
  | .hbm, ⟨11, _⟩ => ⟨S1024x64, .f32⟩
  | .hbm, ⟨12, _⟩ => ⟨S64x16x64, .f32⟩
  | .hbm, ⟨13, _⟩ => ⟨S64x64x16, .f32⟩
  | .hbm, ⟨14, _⟩ => ⟨S65536, .f32⟩
  | .hbm, ⟨15, _⟩ => ⟨S4194304, .f32⟩
  | .hbm, ⟨16, _⟩ => ⟨S1024x4096, .f32⟩
  | .hbm, ⟨17, _⟩ => ⟨S1024x1024, .f32⟩
  | .hbm, ⟨18, _⟩ => ⟨S1024x1000, .f32⟩
  | .local .tc .vmem, ⟨0, _⟩ => ⟨S1024x4096, .f32⟩
  | .local .tc .vmem, ⟨1, _⟩ => ⟨S256x4096, .f32⟩
  | .local .tc .vmem, ⟨2, _⟩ => ⟨S256x4096, .f32⟩
  | .local .tc .vmem, ⟨3, _⟩ => ⟨S1024x256, .f32⟩
  | .local .tc .vmem, ⟨4, _⟩ => ⟨S1024x256, .f32⟩
  | .local .scVector .vmem, ⟨0, _⟩ => ⟨S1024, .i32⟩
  | .local .scVector .vmem, ⟨1, _⟩ => ⟨S1024, .f32⟩
  | .local .scVector .vmem, ⟨2, _⟩ => ⟨S65536, .f32⟩
  | _, _ => ⟨S1024x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v3_scv : Ref sig .scVector := ⟨.hbm, 8, rfl⟩
abbrev main_v7_scv : Ref sig .scVector := ⟨.hbm, 14, rfl⟩
abbrev main_v8_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v6 : BitVec 32 := Scalar.muli v1 c2_i32_0
  let c0_i32 : BitVec 32 := 0#32
  let v7 : BitVec 32 := Scalar.addi v6 c0_i32
  let c1024_i32 : BitVec 32 := 1024#32
  let v8 : BitVec 32 := Scalar.muli v7 c1024_i32
  ![v8.toNat]
@[reducible] def k0_t1_loop : Scf.Loop 32 :=
  let c0_i32_3 : BitVec 32 := 0#32
  let c512_i32 : BitVec 32 := 512#32
  let v10 : BitVec 32 := Scalar.addi c0_i32_3 c512_i32
  let c1_i32 : BitVec 32 := 1#32
  ⟨c0_i32_3, v10, c1_i32⟩
def k0_off2 (k0_t1 : Fin k0_t1_loop.trips) (c0_i32_209 : BitVec 32) : Fin 1 → Nat :=
  let c0_i32_3 : BitVec 32 := 0#32
  let c1_i32 : BitVec 32 := 1#32
  let arg8 : BitVec 32 := Scf.iv c0_i32_3 c1_i32 k0_t1
  let c8_i32 : BitVec 32 := 8#32
  let v404 : BitVec 32 := Scalar.muli arg8 c8_i32
  let v405 : BitVec 32 := Scalar.addi v404 c0_i32_209
  let c16_i32_210 : BitVec 32 := 16#32
  let v406 : BitVec 32 := Scalar.muli v405 c16_i32_210
  let v407 : Index := Scalar.indexCast v406
  ![v407.toNat]

def k0_chk1 (v12 : IVec S16 32) : Prop :=
  (∀ a x, ((![v12] : Fin 1 → IVec S16 32) a x).toNat < S65536.size a)
theorem k0_idx1_inb : ∀ (v12 : IVec S16 32) (k0_hw1 : k0_chk1 v12), ∀ a x, ((![v12] : Fin 1 → IVec S16 32) a x).toNat < S65536.size a := fun v12 k0_hw1 => k0_hw1

def k0_chk2 (v15 : IVec S16 32) : Prop :=
  (∀ a x, ((![v15] : Fin 1 → IVec S16 32) a x).toNat < S65536.size a)
theorem k0_idx2_inb : ∀ (v15 : IVec S16 32) (k0_hw2 : k0_chk2 v15), ∀ a x, ((![v15] : Fin 1 → IVec S16 32) a x).toNat < S65536.size a := fun v15 k0_hw2 => k0_hw2

def k0_chk3 (v18 : IVec S16 32) : Prop :=
  (∀ a x, ((![v18] : Fin 1 → IVec S16 32) a x).toNat < S65536.size a)
theorem k0_idx3_inb : ∀ (v18 : IVec S16 32) (k0_hw3 : k0_chk3 v18), ∀ a x, ((![v18] : Fin 1 → IVec S16 32) a x).toNat < S65536.size a := fun v18 k0_hw3 => k0_hw3

def k0_chk4 (v21 : IVec S16 32) : Prop :=
  (∀ a x, ((![v21] : Fin 1 → IVec S16 32) a x).toNat < S65536.size a)
theorem k0_idx4_inb : ∀ (v21 : IVec S16 32) (k0_hw4 : k0_chk4 v21), ∀ a x, ((![v21] : Fin 1 → IVec S16 32) a x).toNat < S65536.size a := fun v21 k0_hw4 => k0_hw4

def k0_chk5 (v24 : IVec S16 32) : Prop :=
  (∀ a x, ((![v24] : Fin 1 → IVec S16 32) a x).toNat < S65536.size a)
theorem k0_idx5_inb : ∀ (v24 : IVec S16 32) (k0_hw5 : k0_chk5 v24), ∀ a x, ((![v24] : Fin 1 → IVec S16 32) a x).toNat < S65536.size a := fun v24 k0_hw5 => k0_hw5

def k0_chk6 (v27 : IVec S16 32) : Prop :=
  (∀ a x, ((![v27] : Fin 1 → IVec S16 32) a x).toNat < S65536.size a)
theorem k0_idx6_inb : ∀ (v27 : IVec S16 32) (k0_hw6 : k0_chk6 v27), ∀ a x, ((![v27] : Fin 1 → IVec S16 32) a x).toNat < S65536.size a := fun v27 k0_hw6 => k0_hw6

def k0_chk7 (v30 : IVec S16 32) : Prop :=
  (∀ a x, ((![v30] : Fin 1 → IVec S16 32) a x).toNat < S65536.size a)
theorem k0_idx7_inb : ∀ (v30 : IVec S16 32) (k0_hw7 : k0_chk7 v30), ∀ a x, ((![v30] : Fin 1 → IVec S16 32) a x).toNat < S65536.size a := fun v30 k0_hw7 => k0_hw7

def k0_chk8 (v33 : IVec S16 32) : Prop :=
  (∀ a x, ((![v33] : Fin 1 → IVec S16 32) a x).toNat < S65536.size a)
theorem k0_idx8_inb : ∀ (v33 : IVec S16 32) (k0_hw8 : k0_chk8 v33), ∀ a x, ((![v33] : Fin 1 → IVec S16 32) a x).toNat < S65536.size a := fun v33 k0_hw8 => k0_hw8

def k0_chk9 (v36 : IVec S16 32) : Prop :=
  (∀ a x, ((![v36] : Fin 1 → IVec S16 32) a x).toNat < S65536.size a)
theorem k0_idx9_inb : ∀ (v36 : IVec S16 32) (k0_hw9 : k0_chk9 v36), ∀ a x, ((![v36] : Fin 1 → IVec S16 32) a x).toNat < S65536.size a := fun v36 k0_hw9 => k0_hw9

def k0_chk10 (v39 : IVec S16 32) : Prop :=
  (∀ a x, ((![v39] : Fin 1 → IVec S16 32) a x).toNat < S65536.size a)
theorem k0_idx10_inb : ∀ (v39 : IVec S16 32) (k0_hw10 : k0_chk10 v39), ∀ a x, ((![v39] : Fin 1 → IVec S16 32) a x).toNat < S65536.size a := fun v39 k0_hw10 => k0_hw10

def k0_chk11 (v42 : IVec S16 32) : Prop :=
  (∀ a x, ((![v42] : Fin 1 → IVec S16 32) a x).toNat < S65536.size a)
theorem k0_idx11_inb : ∀ (v42 : IVec S16 32) (k0_hw11 : k0_chk11 v42), ∀ a x, ((![v42] : Fin 1 → IVec S16 32) a x).toNat < S65536.size a := fun v42 k0_hw11 => k0_hw11

def k0_chk12 (v45 : IVec S16 32) : Prop :=
  (∀ a x, ((![v45] : Fin 1 → IVec S16 32) a x).toNat < S65536.size a)
theorem k0_idx12_inb : ∀ (v45 : IVec S16 32) (k0_hw12 : k0_chk12 v45), ∀ a x, ((![v45] : Fin 1 → IVec S16 32) a x).toNat < S65536.size a := fun v45 k0_hw12 => k0_hw12

def k0_chk13 (v48 : IVec S16 32) : Prop :=
  (∀ a x, ((![v48] : Fin 1 → IVec S16 32) a x).toNat < S65536.size a)
theorem k0_idx13_inb : ∀ (v48 : IVec S16 32) (k0_hw13 : k0_chk13 v48), ∀ a x, ((![v48] : Fin 1 → IVec S16 32) a x).toNat < S65536.size a := fun v48 k0_hw13 => k0_hw13

def k0_chk14 (v51 : IVec S16 32) : Prop :=
  (∀ a x, ((![v51] : Fin 1 → IVec S16 32) a x).toNat < S65536.size a)
theorem k0_idx14_inb : ∀ (v51 : IVec S16 32) (k0_hw14 : k0_chk14 v51), ∀ a x, ((![v51] : Fin 1 → IVec S16 32) a x).toNat < S65536.size a := fun v51 k0_hw14 => k0_hw14

def k0_chk15 (v54 : IVec S16 32) : Prop :=
  (∀ a x, ((![v54] : Fin 1 → IVec S16 32) a x).toNat < S65536.size a)
theorem k0_idx15_inb : ∀ (v54 : IVec S16 32) (k0_hw15 : k0_chk15 v54), ∀ a x, ((![v54] : Fin 1 → IVec S16 32) a x).toNat < S65536.size a := fun v54 k0_hw15 => k0_hw15

def k0_chk16 (v57 : IVec S16 32) : Prop :=
  (∀ a x, ((![v57] : Fin 1 → IVec S16 32) a x).toNat < S65536.size a)
theorem k0_idx16_inb : ∀ (v57 : IVec S16 32) (k0_hw16 : k0_chk16 v57), ∀ a x, ((![v57] : Fin 1 → IVec S16 32) a x).toNat < S65536.size a := fun v57 k0_hw16 => k0_hw16

def k0_chk17 (v60 : IVec S16 32) : Prop :=
  (∀ a x, ((![v60] : Fin 1 → IVec S16 32) a x).toNat < S65536.size a)
theorem k0_idx17_inb : ∀ (v60 : IVec S16 32) (k0_hw17 : k0_chk17 v60), ∀ a x, ((![v60] : Fin 1 → IVec S16 32) a x).toNat < S65536.size a := fun v60 k0_hw17 => k0_hw17

def k0_chk18 (v63 : IVec S16 32) : Prop :=
  (∀ a x, ((![v63] : Fin 1 → IVec S16 32) a x).toNat < S65536.size a)
theorem k0_idx18_inb : ∀ (v63 : IVec S16 32) (k0_hw18 : k0_chk18 v63), ∀ a x, ((![v63] : Fin 1 → IVec S16 32) a x).toNat < S65536.size a := fun v63 k0_hw18 => k0_hw18

def k0_chk19 (v66 : IVec S16 32) : Prop :=
  (∀ a x, ((![v66] : Fin 1 → IVec S16 32) a x).toNat < S65536.size a)
theorem k0_idx19_inb : ∀ (v66 : IVec S16 32) (k0_hw19 : k0_chk19 v66), ∀ a x, ((![v66] : Fin 1 → IVec S16 32) a x).toNat < S65536.size a := fun v66 k0_hw19 => k0_hw19

def k0_chk20 (v69 : IVec S16 32) : Prop :=
  (∀ a x, ((![v69] : Fin 1 → IVec S16 32) a x).toNat < S65536.size a)
theorem k0_idx20_inb : ∀ (v69 : IVec S16 32) (k0_hw20 : k0_chk20 v69), ∀ a x, ((![v69] : Fin 1 → IVec S16 32) a x).toNat < S65536.size a := fun v69 k0_hw20 => k0_hw20

def k0_chk21 (v72 : IVec S16 32) : Prop :=
  (∀ a x, ((![v72] : Fin 1 → IVec S16 32) a x).toNat < S65536.size a)
theorem k0_idx21_inb : ∀ (v72 : IVec S16 32) (k0_hw21 : k0_chk21 v72), ∀ a x, ((![v72] : Fin 1 → IVec S16 32) a x).toNat < S65536.size a := fun v72 k0_hw21 => k0_hw21

def k0_chk22 (v75 : IVec S16 32) : Prop :=
  (∀ a x, ((![v75] : Fin 1 → IVec S16 32) a x).toNat < S65536.size a)
theorem k0_idx22_inb : ∀ (v75 : IVec S16 32) (k0_hw22 : k0_chk22 v75), ∀ a x, ((![v75] : Fin 1 → IVec S16 32) a x).toNat < S65536.size a := fun v75 k0_hw22 => k0_hw22

def k0_chk23 (v78 : IVec S16 32) : Prop :=
  (∀ a x, ((![v78] : Fin 1 → IVec S16 32) a x).toNat < S65536.size a)
theorem k0_idx23_inb : ∀ (v78 : IVec S16 32) (k0_hw23 : k0_chk23 v78), ∀ a x, ((![v78] : Fin 1 → IVec S16 32) a x).toNat < S65536.size a := fun v78 k0_hw23 => k0_hw23

def k0_chk24 (v81 : IVec S16 32) : Prop :=
  (∀ a x, ((![v81] : Fin 1 → IVec S16 32) a x).toNat < S65536.size a)
theorem k0_idx24_inb : ∀ (v81 : IVec S16 32) (k0_hw24 : k0_chk24 v81), ∀ a x, ((![v81] : Fin 1 → IVec S16 32) a x).toNat < S65536.size a := fun v81 k0_hw24 => k0_hw24

def k0_chk25 (v84 : IVec S16 32) : Prop :=
  (∀ a x, ((![v84] : Fin 1 → IVec S16 32) a x).toNat < S65536.size a)
theorem k0_idx25_inb : ∀ (v84 : IVec S16 32) (k0_hw25 : k0_chk25 v84), ∀ a x, ((![v84] : Fin 1 → IVec S16 32) a x).toNat < S65536.size a := fun v84 k0_hw25 => k0_hw25

def k0_chk26 (v87 : IVec S16 32) : Prop :=
  (∀ a x, ((![v87] : Fin 1 → IVec S16 32) a x).toNat < S65536.size a)
theorem k0_idx26_inb : ∀ (v87 : IVec S16 32) (k0_hw26 : k0_chk26 v87), ∀ a x, ((![v87] : Fin 1 → IVec S16 32) a x).toNat < S65536.size a := fun v87 k0_hw26 => k0_hw26

def k0_chk27 (v90 : IVec S16 32) : Prop :=
  (∀ a x, ((![v90] : Fin 1 → IVec S16 32) a x).toNat < S65536.size a)
theorem k0_idx27_inb : ∀ (v90 : IVec S16 32) (k0_hw27 : k0_chk27 v90), ∀ a x, ((![v90] : Fin 1 → IVec S16 32) a x).toNat < S65536.size a := fun v90 k0_hw27 => k0_hw27

def k0_chk28 (v93 : IVec S16 32) : Prop :=
  (∀ a x, ((![v93] : Fin 1 → IVec S16 32) a x).toNat < S65536.size a)
theorem k0_idx28_inb : ∀ (v93 : IVec S16 32) (k0_hw28 : k0_chk28 v93), ∀ a x, ((![v93] : Fin 1 → IVec S16 32) a x).toNat < S65536.size a := fun v93 k0_hw28 => k0_hw28

def k0_chk29 (v96 : IVec S16 32) : Prop :=
  (∀ a x, ((![v96] : Fin 1 → IVec S16 32) a x).toNat < S65536.size a)
theorem k0_idx29_inb : ∀ (v96 : IVec S16 32) (k0_hw29 : k0_chk29 v96), ∀ a x, ((![v96] : Fin 1 → IVec S16 32) a x).toNat < S65536.size a := fun v96 k0_hw29 => k0_hw29

def k0_chk30 (v99 : IVec S16 32) : Prop :=
  (∀ a x, ((![v99] : Fin 1 → IVec S16 32) a x).toNat < S65536.size a)
theorem k0_idx30_inb : ∀ (v99 : IVec S16 32) (k0_hw30 : k0_chk30 v99), ∀ a x, ((![v99] : Fin 1 → IVec S16 32) a x).toNat < S65536.size a := fun v99 k0_hw30 => k0_hw30

def k0_chk31 (v102 : IVec S16 32) : Prop :=
  (∀ a x, ((![v102] : Fin 1 → IVec S16 32) a x).toNat < S65536.size a)
theorem k0_idx31_inb : ∀ (v102 : IVec S16 32) (k0_hw31 : k0_chk31 v102), ∀ a x, ((![v102] : Fin 1 → IVec S16 32) a x).toNat < S65536.size a := fun v102 k0_hw31 => k0_hw31

def k0_chk32 (v105 : IVec S16 32) : Prop :=
  (∀ a x, ((![v105] : Fin 1 → IVec S16 32) a x).toNat < S65536.size a)
theorem k0_idx32_inb : ∀ (v105 : IVec S16 32) (k0_hw32 : k0_chk32 v105), ∀ a x, ((![v105] : Fin 1 → IVec S16 32) a x).toNat < S65536.size a := fun v105 k0_hw32 => k0_hw32

def k0_chk33 (v108 : IVec S16 32) : Prop :=
  (∀ a x, ((![v108] : Fin 1 → IVec S16 32) a x).toNat < S65536.size a)
theorem k0_idx33_inb : ∀ (v108 : IVec S16 32) (k0_hw33 : k0_chk33 v108), ∀ a x, ((![v108] : Fin 1 → IVec S16 32) a x).toNat < S65536.size a := fun v108 k0_hw33 => k0_hw33

def k0_chk34 (v111 : IVec S16 32) : Prop :=
  (∀ a x, ((![v111] : Fin 1 → IVec S16 32) a x).toNat < S65536.size a)
theorem k0_idx34_inb : ∀ (v111 : IVec S16 32) (k0_hw34 : k0_chk34 v111), ∀ a x, ((![v111] : Fin 1 → IVec S16 32) a x).toNat < S65536.size a := fun v111 k0_hw34 => k0_hw34

def k0_chk35 (v114 : IVec S16 32) : Prop :=
  (∀ a x, ((![v114] : Fin 1 → IVec S16 32) a x).toNat < S65536.size a)
theorem k0_idx35_inb : ∀ (v114 : IVec S16 32) (k0_hw35 : k0_chk35 v114), ∀ a x, ((![v114] : Fin 1 → IVec S16 32) a x).toNat < S65536.size a := fun v114 k0_hw35 => k0_hw35

def k0_chk36 (v117 : IVec S16 32) : Prop :=
  (∀ a x, ((![v117] : Fin 1 → IVec S16 32) a x).toNat < S65536.size a)
theorem k0_idx36_inb : ∀ (v117 : IVec S16 32) (k0_hw36 : k0_chk36 v117), ∀ a x, ((![v117] : Fin 1 → IVec S16 32) a x).toNat < S65536.size a := fun v117 k0_hw36 => k0_hw36

def k0_chk37 (v120 : IVec S16 32) : Prop :=
  (∀ a x, ((![v120] : Fin 1 → IVec S16 32) a x).toNat < S65536.size a)
theorem k0_idx37_inb : ∀ (v120 : IVec S16 32) (k0_hw37 : k0_chk37 v120), ∀ a x, ((![v120] : Fin 1 → IVec S16 32) a x).toNat < S65536.size a := fun v120 k0_hw37 => k0_hw37

def k0_chk38 (v123 : IVec S16 32) : Prop :=
  (∀ a x, ((![v123] : Fin 1 → IVec S16 32) a x).toNat < S65536.size a)
theorem k0_idx38_inb : ∀ (v123 : IVec S16 32) (k0_hw38 : k0_chk38 v123), ∀ a x, ((![v123] : Fin 1 → IVec S16 32) a x).toNat < S65536.size a := fun v123 k0_hw38 => k0_hw38

def k0_chk39 (v126 : IVec S16 32) : Prop :=
  (∀ a x, ((![v126] : Fin 1 → IVec S16 32) a x).toNat < S65536.size a)
theorem k0_idx39_inb : ∀ (v126 : IVec S16 32) (k0_hw39 : k0_chk39 v126), ∀ a x, ((![v126] : Fin 1 → IVec S16 32) a x).toNat < S65536.size a := fun v126 k0_hw39 => k0_hw39

def k0_chk40 (v129 : IVec S16 32) : Prop :=
  (∀ a x, ((![v129] : Fin 1 → IVec S16 32) a x).toNat < S65536.size a)
theorem k0_idx40_inb : ∀ (v129 : IVec S16 32) (k0_hw40 : k0_chk40 v129), ∀ a x, ((![v129] : Fin 1 → IVec S16 32) a x).toNat < S65536.size a := fun v129 k0_hw40 => k0_hw40

def k0_chk41 (v132 : IVec S16 32) : Prop :=
  (∀ a x, ((![v132] : Fin 1 → IVec S16 32) a x).toNat < S65536.size a)
theorem k0_idx41_inb : ∀ (v132 : IVec S16 32) (k0_hw41 : k0_chk41 v132), ∀ a x, ((![v132] : Fin 1 → IVec S16 32) a x).toNat < S65536.size a := fun v132 k0_hw41 => k0_hw41

def k0_chk42 (v135 : IVec S16 32) : Prop :=
  (∀ a x, ((![v135] : Fin 1 → IVec S16 32) a x).toNat < S65536.size a)
theorem k0_idx42_inb : ∀ (v135 : IVec S16 32) (k0_hw42 : k0_chk42 v135), ∀ a x, ((![v135] : Fin 1 → IVec S16 32) a x).toNat < S65536.size a := fun v135 k0_hw42 => k0_hw42

def k0_chk43 (v138 : IVec S16 32) : Prop :=
  (∀ a x, ((![v138] : Fin 1 → IVec S16 32) a x).toNat < S65536.size a)
theorem k0_idx43_inb : ∀ (v138 : IVec S16 32) (k0_hw43 : k0_chk43 v138), ∀ a x, ((![v138] : Fin 1 → IVec S16 32) a x).toNat < S65536.size a := fun v138 k0_hw43 => k0_hw43

def k0_chk44 (v141 : IVec S16 32) : Prop :=
  (∀ a x, ((![v141] : Fin 1 → IVec S16 32) a x).toNat < S65536.size a)
theorem k0_idx44_inb : ∀ (v141 : IVec S16 32) (k0_hw44 : k0_chk44 v141), ∀ a x, ((![v141] : Fin 1 → IVec S16 32) a x).toNat < S65536.size a := fun v141 k0_hw44 => k0_hw44

def k0_chk45 (v144 : IVec S16 32) : Prop :=
  (∀ a x, ((![v144] : Fin 1 → IVec S16 32) a x).toNat < S65536.size a)
theorem k0_idx45_inb : ∀ (v144 : IVec S16 32) (k0_hw45 : k0_chk45 v144), ∀ a x, ((![v144] : Fin 1 → IVec S16 32) a x).toNat < S65536.size a := fun v144 k0_hw45 => k0_hw45

def k0_chk46 (v147 : IVec S16 32) : Prop :=
  (∀ a x, ((![v147] : Fin 1 → IVec S16 32) a x).toNat < S65536.size a)
theorem k0_idx46_inb : ∀ (v147 : IVec S16 32) (k0_hw46 : k0_chk46 v147), ∀ a x, ((![v147] : Fin 1 → IVec S16 32) a x).toNat < S65536.size a := fun v147 k0_hw46 => k0_hw46

def k0_chk47 (v150 : IVec S16 32) : Prop :=
  (∀ a x, ((![v150] : Fin 1 → IVec S16 32) a x).toNat < S65536.size a)
theorem k0_idx47_inb : ∀ (v150 : IVec S16 32) (k0_hw47 : k0_chk47 v150), ∀ a x, ((![v150] : Fin 1 → IVec S16 32) a x).toNat < S65536.size a := fun v150 k0_hw47 => k0_hw47

def k0_chk48 (v153 : IVec S16 32) : Prop :=
  (∀ a x, ((![v153] : Fin 1 → IVec S16 32) a x).toNat < S65536.size a)
theorem k0_idx48_inb : ∀ (v153 : IVec S16 32) (k0_hw48 : k0_chk48 v153), ∀ a x, ((![v153] : Fin 1 → IVec S16 32) a x).toNat < S65536.size a := fun v153 k0_hw48 => k0_hw48

def k0_chk49 (v156 : IVec S16 32) : Prop :=
  (∀ a x, ((![v156] : Fin 1 → IVec S16 32) a x).toNat < S65536.size a)
theorem k0_idx49_inb : ∀ (v156 : IVec S16 32) (k0_hw49 : k0_chk49 v156), ∀ a x, ((![v156] : Fin 1 → IVec S16 32) a x).toNat < S65536.size a := fun v156 k0_hw49 => k0_hw49

def k0_chk50 (v159 : IVec S16 32) : Prop :=
  (∀ a x, ((![v159] : Fin 1 → IVec S16 32) a x).toNat < S65536.size a)
theorem k0_idx50_inb : ∀ (v159 : IVec S16 32) (k0_hw50 : k0_chk50 v159), ∀ a x, ((![v159] : Fin 1 → IVec S16 32) a x).toNat < S65536.size a := fun v159 k0_hw50 => k0_hw50

def k0_chk51 (v162 : IVec S16 32) : Prop :=
  (∀ a x, ((![v162] : Fin 1 → IVec S16 32) a x).toNat < S65536.size a)
theorem k0_idx51_inb : ∀ (v162 : IVec S16 32) (k0_hw51 : k0_chk51 v162), ∀ a x, ((![v162] : Fin 1 → IVec S16 32) a x).toNat < S65536.size a := fun v162 k0_hw51 => k0_hw51

def k0_chk52 (v165 : IVec S16 32) : Prop :=
  (∀ a x, ((![v165] : Fin 1 → IVec S16 32) a x).toNat < S65536.size a)
theorem k0_idx52_inb : ∀ (v165 : IVec S16 32) (k0_hw52 : k0_chk52 v165), ∀ a x, ((![v165] : Fin 1 → IVec S16 32) a x).toNat < S65536.size a := fun v165 k0_hw52 => k0_hw52

def k0_chk53 (v168 : IVec S16 32) : Prop :=
  (∀ a x, ((![v168] : Fin 1 → IVec S16 32) a x).toNat < S65536.size a)
theorem k0_idx53_inb : ∀ (v168 : IVec S16 32) (k0_hw53 : k0_chk53 v168), ∀ a x, ((![v168] : Fin 1 → IVec S16 32) a x).toNat < S65536.size a := fun v168 k0_hw53 => k0_hw53

def k0_chk54 (v171 : IVec S16 32) : Prop :=
  (∀ a x, ((![v171] : Fin 1 → IVec S16 32) a x).toNat < S65536.size a)
theorem k0_idx54_inb : ∀ (v171 : IVec S16 32) (k0_hw54 : k0_chk54 v171), ∀ a x, ((![v171] : Fin 1 → IVec S16 32) a x).toNat < S65536.size a := fun v171 k0_hw54 => k0_hw54

def k0_chk55 (v174 : IVec S16 32) : Prop :=
  (∀ a x, ((![v174] : Fin 1 → IVec S16 32) a x).toNat < S65536.size a)
theorem k0_idx55_inb : ∀ (v174 : IVec S16 32) (k0_hw55 : k0_chk55 v174), ∀ a x, ((![v174] : Fin 1 → IVec S16 32) a x).toNat < S65536.size a := fun v174 k0_hw55 => k0_hw55

def k0_chk56 (v177 : IVec S16 32) : Prop :=
  (∀ a x, ((![v177] : Fin 1 → IVec S16 32) a x).toNat < S65536.size a)
theorem k0_idx56_inb : ∀ (v177 : IVec S16 32) (k0_hw56 : k0_chk56 v177), ∀ a x, ((![v177] : Fin 1 → IVec S16 32) a x).toNat < S65536.size a := fun v177 k0_hw56 => k0_hw56

def k0_chk57 (v180 : IVec S16 32) : Prop :=
  (∀ a x, ((![v180] : Fin 1 → IVec S16 32) a x).toNat < S65536.size a)
theorem k0_idx57_inb : ∀ (v180 : IVec S16 32) (k0_hw57 : k0_chk57 v180), ∀ a x, ((![v180] : Fin 1 → IVec S16 32) a x).toNat < S65536.size a := fun v180 k0_hw57 => k0_hw57

def k0_chk58 (v183 : IVec S16 32) : Prop :=
  (∀ a x, ((![v183] : Fin 1 → IVec S16 32) a x).toNat < S65536.size a)
theorem k0_idx58_inb : ∀ (v183 : IVec S16 32) (k0_hw58 : k0_chk58 v183), ∀ a x, ((![v183] : Fin 1 → IVec S16 32) a x).toNat < S65536.size a := fun v183 k0_hw58 => k0_hw58

def k0_chk59 (v186 : IVec S16 32) : Prop :=
  (∀ a x, ((![v186] : Fin 1 → IVec S16 32) a x).toNat < S65536.size a)
theorem k0_idx59_inb : ∀ (v186 : IVec S16 32) (k0_hw59 : k0_chk59 v186), ∀ a x, ((![v186] : Fin 1 → IVec S16 32) a x).toNat < S65536.size a := fun v186 k0_hw59 => k0_hw59

def k0_chk60 (v189 : IVec S16 32) : Prop :=
  (∀ a x, ((![v189] : Fin 1 → IVec S16 32) a x).toNat < S65536.size a)
theorem k0_idx60_inb : ∀ (v189 : IVec S16 32) (k0_hw60 : k0_chk60 v189), ∀ a x, ((![v189] : Fin 1 → IVec S16 32) a x).toNat < S65536.size a := fun v189 k0_hw60 => k0_hw60

def k0_chk61 (v192 : IVec S16 32) : Prop :=
  (∀ a x, ((![v192] : Fin 1 → IVec S16 32) a x).toNat < S65536.size a)
theorem k0_idx61_inb : ∀ (v192 : IVec S16 32) (k0_hw61 : k0_chk61 v192), ∀ a x, ((![v192] : Fin 1 → IVec S16 32) a x).toNat < S65536.size a := fun v192 k0_hw61 => k0_hw61

def k0_chk62 (v195 : IVec S16 32) : Prop :=
  (∀ a x, ((![v195] : Fin 1 → IVec S16 32) a x).toNat < S65536.size a)
theorem k0_idx62_inb : ∀ (v195 : IVec S16 32) (k0_hw62 : k0_chk62 v195), ∀ a x, ((![v195] : Fin 1 → IVec S16 32) a x).toNat < S65536.size a := fun v195 k0_hw62 => k0_hw62

def k0_chk63 (v198 : IVec S16 32) : Prop :=
  (∀ a x, ((![v198] : Fin 1 → IVec S16 32) a x).toNat < S65536.size a)
theorem k0_idx63_inb : ∀ (v198 : IVec S16 32) (k0_hw63 : k0_chk63 v198), ∀ a x, ((![v198] : Fin 1 → IVec S16 32) a x).toNat < S65536.size a := fun v198 k0_hw63 => k0_hw63

def k0_chk64 (v201 : IVec S16 32) : Prop :=
  (∀ a x, ((![v201] : Fin 1 → IVec S16 32) a x).toNat < S65536.size a)
theorem k0_idx64_inb : ∀ (v201 : IVec S16 32) (k0_hw64 : k0_chk64 v201), ∀ a x, ((![v201] : Fin 1 → IVec S16 32) a x).toNat < S65536.size a := fun v201 k0_hw64 => k0_hw64
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v6 : BitVec 32 := Scalar.muli v1 c2_i32_0
  let c0_i32 : BitVec 32 := 0#32
  let v7 : BitVec 32 := Scalar.addi v6 c0_i32
  let c16_i32 : BitVec 32 := 16#32
  let v203 : BitVec 32 := Scalar.muli v7 c16_i32
  let c4096_i32_69 : BitVec 32 := 4096#32
  let v204 : BitVec 32 := Scalar.muli v203 c4096_i32_69
  ![v204.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_70 : BitVec 32 := 2#32
  let v205 : BitVec 32 := Scalar.muli v1 c2_i32_70
  let c1_i32_71 : BitVec 32 := 1#32
  let v206 : BitVec 32 := Scalar.addi v205 c1_i32_71
  let c1024_i32_72 : BitVec 32 := 1024#32
  let v207 : BitVec 32 := Scalar.muli v206 c1024_i32_72
  ![v207.toNat]
@[reducible] def k0_t2_loop : Scf.Loop 32 :=
  let c0_i32_75 : BitVec 32 := 0#32
  let c512_i32_76 : BitVec 32 := 512#32
  let v209 : BitVec 32 := Scalar.addi c0_i32_75 c512_i32_76
  let c1_i32_77 : BitVec 32 := 1#32
  ⟨c0_i32_75, v209, c1_i32_77⟩
def k0_off5 (k0_t2 : Fin k0_t2_loop.trips) (c0_i32_209 : BitVec 32) : Fin 1 → Nat :=
  let c0_i32_75 : BitVec 32 := 0#32
  let c1_i32_77 : BitVec 32 := 1#32
  let arg8 : BitVec 32 := Scf.iv c0_i32_75 c1_i32_77 k0_t2
  let c8_i32 : BitVec 32 := 8#32
  let v404 : BitVec 32 := Scalar.muli arg8 c8_i32
  let v405 : BitVec 32 := Scalar.addi v404 c0_i32_209
  let c16_i32_210 : BitVec 32 := 16#32
  let v406 : BitVec 32 := Scalar.muli v405 c16_i32_210
  let v407 : Index := Scalar.indexCast v406
  ![v407.toNat]

def k0_chk65 (v211 : IVec S16 32) : Prop :=
  (∀ a x, ((![v211] : Fin 1 → IVec S16 32) a x).toNat < S65536.size a)
theorem k0_idx65_inb : ∀ (v211 : IVec S16 32) (k0_hw65 : k0_chk65 v211), ∀ a x, ((![v211] : Fin 1 → IVec S16 32) a x).toNat < S65536.size a := fun v211 k0_hw65 => k0_hw65

def k0_chk66 (v214 : IVec S16 32) : Prop :=
  (∀ a x, ((![v214] : Fin 1 → IVec S16 32) a x).toNat < S65536.size a)
theorem k0_idx66_inb : ∀ (v214 : IVec S16 32) (k0_hw66 : k0_chk66 v214), ∀ a x, ((![v214] : Fin 1 → IVec S16 32) a x).toNat < S65536.size a := fun v214 k0_hw66 => k0_hw66

def k0_chk67 (v217 : IVec S16 32) : Prop :=
  (∀ a x, ((![v217] : Fin 1 → IVec S16 32) a x).toNat < S65536.size a)
theorem k0_idx67_inb : ∀ (v217 : IVec S16 32) (k0_hw67 : k0_chk67 v217), ∀ a x, ((![v217] : Fin 1 → IVec S16 32) a x).toNat < S65536.size a := fun v217 k0_hw67 => k0_hw67

def k0_chk68 (v220 : IVec S16 32) : Prop :=
  (∀ a x, ((![v220] : Fin 1 → IVec S16 32) a x).toNat < S65536.size a)
theorem k0_idx68_inb : ∀ (v220 : IVec S16 32) (k0_hw68 : k0_chk68 v220), ∀ a x, ((![v220] : Fin 1 → IVec S16 32) a x).toNat < S65536.size a := fun v220 k0_hw68 => k0_hw68

def k0_chk69 (v223 : IVec S16 32) : Prop :=
  (∀ a x, ((![v223] : Fin 1 → IVec S16 32) a x).toNat < S65536.size a)
theorem k0_idx69_inb : ∀ (v223 : IVec S16 32) (k0_hw69 : k0_chk69 v223), ∀ a x, ((![v223] : Fin 1 → IVec S16 32) a x).toNat < S65536.size a := fun v223 k0_hw69 => k0_hw69

def k0_chk70 (v226 : IVec S16 32) : Prop :=
  (∀ a x, ((![v226] : Fin 1 → IVec S16 32) a x).toNat < S65536.size a)
theorem k0_idx70_inb : ∀ (v226 : IVec S16 32) (k0_hw70 : k0_chk70 v226), ∀ a x, ((![v226] : Fin 1 → IVec S16 32) a x).toNat < S65536.size a := fun v226 k0_hw70 => k0_hw70

def k0_chk71 (v229 : IVec S16 32) : Prop :=
  (∀ a x, ((![v229] : Fin 1 → IVec S16 32) a x).toNat < S65536.size a)
theorem k0_idx71_inb : ∀ (v229 : IVec S16 32) (k0_hw71 : k0_chk71 v229), ∀ a x, ((![v229] : Fin 1 → IVec S16 32) a x).toNat < S65536.size a := fun v229 k0_hw71 => k0_hw71

def k0_chk72 (v232 : IVec S16 32) : Prop :=
  (∀ a x, ((![v232] : Fin 1 → IVec S16 32) a x).toNat < S65536.size a)
theorem k0_idx72_inb : ∀ (v232 : IVec S16 32) (k0_hw72 : k0_chk72 v232), ∀ a x, ((![v232] : Fin 1 → IVec S16 32) a x).toNat < S65536.size a := fun v232 k0_hw72 => k0_hw72

def k0_chk73 (v235 : IVec S16 32) : Prop :=
  (∀ a x, ((![v235] : Fin 1 → IVec S16 32) a x).toNat < S65536.size a)
theorem k0_idx73_inb : ∀ (v235 : IVec S16 32) (k0_hw73 : k0_chk73 v235), ∀ a x, ((![v235] : Fin 1 → IVec S16 32) a x).toNat < S65536.size a := fun v235 k0_hw73 => k0_hw73

def k0_chk74 (v238 : IVec S16 32) : Prop :=
  (∀ a x, ((![v238] : Fin 1 → IVec S16 32) a x).toNat < S65536.size a)
theorem k0_idx74_inb : ∀ (v238 : IVec S16 32) (k0_hw74 : k0_chk74 v238), ∀ a x, ((![v238] : Fin 1 → IVec S16 32) a x).toNat < S65536.size a := fun v238 k0_hw74 => k0_hw74

def k0_chk75 (v241 : IVec S16 32) : Prop :=
  (∀ a x, ((![v241] : Fin 1 → IVec S16 32) a x).toNat < S65536.size a)
theorem k0_idx75_inb : ∀ (v241 : IVec S16 32) (k0_hw75 : k0_chk75 v241), ∀ a x, ((![v241] : Fin 1 → IVec S16 32) a x).toNat < S65536.size a := fun v241 k0_hw75 => k0_hw75

def k0_chk76 (v244 : IVec S16 32) : Prop :=
  (∀ a x, ((![v244] : Fin 1 → IVec S16 32) a x).toNat < S65536.size a)
theorem k0_idx76_inb : ∀ (v244 : IVec S16 32) (k0_hw76 : k0_chk76 v244), ∀ a x, ((![v244] : Fin 1 → IVec S16 32) a x).toNat < S65536.size a := fun v244 k0_hw76 => k0_hw76

def k0_chk77 (v247 : IVec S16 32) : Prop :=
  (∀ a x, ((![v247] : Fin 1 → IVec S16 32) a x).toNat < S65536.size a)
theorem k0_idx77_inb : ∀ (v247 : IVec S16 32) (k0_hw77 : k0_chk77 v247), ∀ a x, ((![v247] : Fin 1 → IVec S16 32) a x).toNat < S65536.size a := fun v247 k0_hw77 => k0_hw77

def k0_chk78 (v250 : IVec S16 32) : Prop :=
  (∀ a x, ((![v250] : Fin 1 → IVec S16 32) a x).toNat < S65536.size a)
theorem k0_idx78_inb : ∀ (v250 : IVec S16 32) (k0_hw78 : k0_chk78 v250), ∀ a x, ((![v250] : Fin 1 → IVec S16 32) a x).toNat < S65536.size a := fun v250 k0_hw78 => k0_hw78

def k0_chk79 (v253 : IVec S16 32) : Prop :=
  (∀ a x, ((![v253] : Fin 1 → IVec S16 32) a x).toNat < S65536.size a)
theorem k0_idx79_inb : ∀ (v253 : IVec S16 32) (k0_hw79 : k0_chk79 v253), ∀ a x, ((![v253] : Fin 1 → IVec S16 32) a x).toNat < S65536.size a := fun v253 k0_hw79 => k0_hw79

def k0_chk80 (v256 : IVec S16 32) : Prop :=
  (∀ a x, ((![v256] : Fin 1 → IVec S16 32) a x).toNat < S65536.size a)
theorem k0_idx80_inb : ∀ (v256 : IVec S16 32) (k0_hw80 : k0_chk80 v256), ∀ a x, ((![v256] : Fin 1 → IVec S16 32) a x).toNat < S65536.size a := fun v256 k0_hw80 => k0_hw80

def k0_chk81 (v259 : IVec S16 32) : Prop :=
  (∀ a x, ((![v259] : Fin 1 → IVec S16 32) a x).toNat < S65536.size a)
theorem k0_idx81_inb : ∀ (v259 : IVec S16 32) (k0_hw81 : k0_chk81 v259), ∀ a x, ((![v259] : Fin 1 → IVec S16 32) a x).toNat < S65536.size a := fun v259 k0_hw81 => k0_hw81

def k0_chk82 (v262 : IVec S16 32) : Prop :=
  (∀ a x, ((![v262] : Fin 1 → IVec S16 32) a x).toNat < S65536.size a)
theorem k0_idx82_inb : ∀ (v262 : IVec S16 32) (k0_hw82 : k0_chk82 v262), ∀ a x, ((![v262] : Fin 1 → IVec S16 32) a x).toNat < S65536.size a := fun v262 k0_hw82 => k0_hw82

def k0_chk83 (v265 : IVec S16 32) : Prop :=
  (∀ a x, ((![v265] : Fin 1 → IVec S16 32) a x).toNat < S65536.size a)
theorem k0_idx83_inb : ∀ (v265 : IVec S16 32) (k0_hw83 : k0_chk83 v265), ∀ a x, ((![v265] : Fin 1 → IVec S16 32) a x).toNat < S65536.size a := fun v265 k0_hw83 => k0_hw83

def k0_chk84 (v268 : IVec S16 32) : Prop :=
  (∀ a x, ((![v268] : Fin 1 → IVec S16 32) a x).toNat < S65536.size a)
theorem k0_idx84_inb : ∀ (v268 : IVec S16 32) (k0_hw84 : k0_chk84 v268), ∀ a x, ((![v268] : Fin 1 → IVec S16 32) a x).toNat < S65536.size a := fun v268 k0_hw84 => k0_hw84

def k0_chk85 (v271 : IVec S16 32) : Prop :=
  (∀ a x, ((![v271] : Fin 1 → IVec S16 32) a x).toNat < S65536.size a)
theorem k0_idx85_inb : ∀ (v271 : IVec S16 32) (k0_hw85 : k0_chk85 v271), ∀ a x, ((![v271] : Fin 1 → IVec S16 32) a x).toNat < S65536.size a := fun v271 k0_hw85 => k0_hw85

def k0_chk86 (v274 : IVec S16 32) : Prop :=
  (∀ a x, ((![v274] : Fin 1 → IVec S16 32) a x).toNat < S65536.size a)
theorem k0_idx86_inb : ∀ (v274 : IVec S16 32) (k0_hw86 : k0_chk86 v274), ∀ a x, ((![v274] : Fin 1 → IVec S16 32) a x).toNat < S65536.size a := fun v274 k0_hw86 => k0_hw86

def k0_chk87 (v277 : IVec S16 32) : Prop :=
  (∀ a x, ((![v277] : Fin 1 → IVec S16 32) a x).toNat < S65536.size a)
theorem k0_idx87_inb : ∀ (v277 : IVec S16 32) (k0_hw87 : k0_chk87 v277), ∀ a x, ((![v277] : Fin 1 → IVec S16 32) a x).toNat < S65536.size a := fun v277 k0_hw87 => k0_hw87

def k0_chk88 (v280 : IVec S16 32) : Prop :=
  (∀ a x, ((![v280] : Fin 1 → IVec S16 32) a x).toNat < S65536.size a)
theorem k0_idx88_inb : ∀ (v280 : IVec S16 32) (k0_hw88 : k0_chk88 v280), ∀ a x, ((![v280] : Fin 1 → IVec S16 32) a x).toNat < S65536.size a := fun v280 k0_hw88 => k0_hw88

def k0_chk89 (v283 : IVec S16 32) : Prop :=
  (∀ a x, ((![v283] : Fin 1 → IVec S16 32) a x).toNat < S65536.size a)
theorem k0_idx89_inb : ∀ (v283 : IVec S16 32) (k0_hw89 : k0_chk89 v283), ∀ a x, ((![v283] : Fin 1 → IVec S16 32) a x).toNat < S65536.size a := fun v283 k0_hw89 => k0_hw89

def k0_chk90 (v286 : IVec S16 32) : Prop :=
  (∀ a x, ((![v286] : Fin 1 → IVec S16 32) a x).toNat < S65536.size a)
theorem k0_idx90_inb : ∀ (v286 : IVec S16 32) (k0_hw90 : k0_chk90 v286), ∀ a x, ((![v286] : Fin 1 → IVec S16 32) a x).toNat < S65536.size a := fun v286 k0_hw90 => k0_hw90

def k0_chk91 (v289 : IVec S16 32) : Prop :=
  (∀ a x, ((![v289] : Fin 1 → IVec S16 32) a x).toNat < S65536.size a)
theorem k0_idx91_inb : ∀ (v289 : IVec S16 32) (k0_hw91 : k0_chk91 v289), ∀ a x, ((![v289] : Fin 1 → IVec S16 32) a x).toNat < S65536.size a := fun v289 k0_hw91 => k0_hw91

def k0_chk92 (v292 : IVec S16 32) : Prop :=
  (∀ a x, ((![v292] : Fin 1 → IVec S16 32) a x).toNat < S65536.size a)
theorem k0_idx92_inb : ∀ (v292 : IVec S16 32) (k0_hw92 : k0_chk92 v292), ∀ a x, ((![v292] : Fin 1 → IVec S16 32) a x).toNat < S65536.size a := fun v292 k0_hw92 => k0_hw92

def k0_chk93 (v295 : IVec S16 32) : Prop :=
  (∀ a x, ((![v295] : Fin 1 → IVec S16 32) a x).toNat < S65536.size a)
theorem k0_idx93_inb : ∀ (v295 : IVec S16 32) (k0_hw93 : k0_chk93 v295), ∀ a x, ((![v295] : Fin 1 → IVec S16 32) a x).toNat < S65536.size a := fun v295 k0_hw93 => k0_hw93

def k0_chk94 (v298 : IVec S16 32) : Prop :=
  (∀ a x, ((![v298] : Fin 1 → IVec S16 32) a x).toNat < S65536.size a)
theorem k0_idx94_inb : ∀ (v298 : IVec S16 32) (k0_hw94 : k0_chk94 v298), ∀ a x, ((![v298] : Fin 1 → IVec S16 32) a x).toNat < S65536.size a := fun v298 k0_hw94 => k0_hw94

def k0_chk95 (v301 : IVec S16 32) : Prop :=
  (∀ a x, ((![v301] : Fin 1 → IVec S16 32) a x).toNat < S65536.size a)
theorem k0_idx95_inb : ∀ (v301 : IVec S16 32) (k0_hw95 : k0_chk95 v301), ∀ a x, ((![v301] : Fin 1 → IVec S16 32) a x).toNat < S65536.size a := fun v301 k0_hw95 => k0_hw95

def k0_chk96 (v304 : IVec S16 32) : Prop :=
  (∀ a x, ((![v304] : Fin 1 → IVec S16 32) a x).toNat < S65536.size a)
theorem k0_idx96_inb : ∀ (v304 : IVec S16 32) (k0_hw96 : k0_chk96 v304), ∀ a x, ((![v304] : Fin 1 → IVec S16 32) a x).toNat < S65536.size a := fun v304 k0_hw96 => k0_hw96

def k0_chk97 (v307 : IVec S16 32) : Prop :=
  (∀ a x, ((![v307] : Fin 1 → IVec S16 32) a x).toNat < S65536.size a)
theorem k0_idx97_inb : ∀ (v307 : IVec S16 32) (k0_hw97 : k0_chk97 v307), ∀ a x, ((![v307] : Fin 1 → IVec S16 32) a x).toNat < S65536.size a := fun v307 k0_hw97 => k0_hw97

def k0_chk98 (v310 : IVec S16 32) : Prop :=
  (∀ a x, ((![v310] : Fin 1 → IVec S16 32) a x).toNat < S65536.size a)
theorem k0_idx98_inb : ∀ (v310 : IVec S16 32) (k0_hw98 : k0_chk98 v310), ∀ a x, ((![v310] : Fin 1 → IVec S16 32) a x).toNat < S65536.size a := fun v310 k0_hw98 => k0_hw98

def k0_chk99 (v313 : IVec S16 32) : Prop :=
  (∀ a x, ((![v313] : Fin 1 → IVec S16 32) a x).toNat < S65536.size a)
theorem k0_idx99_inb : ∀ (v313 : IVec S16 32) (k0_hw99 : k0_chk99 v313), ∀ a x, ((![v313] : Fin 1 → IVec S16 32) a x).toNat < S65536.size a := fun v313 k0_hw99 => k0_hw99

def k0_chk100 (v316 : IVec S16 32) : Prop :=
  (∀ a x, ((![v316] : Fin 1 → IVec S16 32) a x).toNat < S65536.size a)
theorem k0_idx100_inb : ∀ (v316 : IVec S16 32) (k0_hw100 : k0_chk100 v316), ∀ a x, ((![v316] : Fin 1 → IVec S16 32) a x).toNat < S65536.size a := fun v316 k0_hw100 => k0_hw100

def k0_chk101 (v319 : IVec S16 32) : Prop :=
  (∀ a x, ((![v319] : Fin 1 → IVec S16 32) a x).toNat < S65536.size a)
theorem k0_idx101_inb : ∀ (v319 : IVec S16 32) (k0_hw101 : k0_chk101 v319), ∀ a x, ((![v319] : Fin 1 → IVec S16 32) a x).toNat < S65536.size a := fun v319 k0_hw101 => k0_hw101

def k0_chk102 (v322 : IVec S16 32) : Prop :=
  (∀ a x, ((![v322] : Fin 1 → IVec S16 32) a x).toNat < S65536.size a)
theorem k0_idx102_inb : ∀ (v322 : IVec S16 32) (k0_hw102 : k0_chk102 v322), ∀ a x, ((![v322] : Fin 1 → IVec S16 32) a x).toNat < S65536.size a := fun v322 k0_hw102 => k0_hw102

def k0_chk103 (v325 : IVec S16 32) : Prop :=
  (∀ a x, ((![v325] : Fin 1 → IVec S16 32) a x).toNat < S65536.size a)
theorem k0_idx103_inb : ∀ (v325 : IVec S16 32) (k0_hw103 : k0_chk103 v325), ∀ a x, ((![v325] : Fin 1 → IVec S16 32) a x).toNat < S65536.size a := fun v325 k0_hw103 => k0_hw103

def k0_chk104 (v328 : IVec S16 32) : Prop :=
  (∀ a x, ((![v328] : Fin 1 → IVec S16 32) a x).toNat < S65536.size a)
theorem k0_idx104_inb : ∀ (v328 : IVec S16 32) (k0_hw104 : k0_chk104 v328), ∀ a x, ((![v328] : Fin 1 → IVec S16 32) a x).toNat < S65536.size a := fun v328 k0_hw104 => k0_hw104

def k0_chk105 (v331 : IVec S16 32) : Prop :=
  (∀ a x, ((![v331] : Fin 1 → IVec S16 32) a x).toNat < S65536.size a)
theorem k0_idx105_inb : ∀ (v331 : IVec S16 32) (k0_hw105 : k0_chk105 v331), ∀ a x, ((![v331] : Fin 1 → IVec S16 32) a x).toNat < S65536.size a := fun v331 k0_hw105 => k0_hw105

def k0_chk106 (v334 : IVec S16 32) : Prop :=
  (∀ a x, ((![v334] : Fin 1 → IVec S16 32) a x).toNat < S65536.size a)
theorem k0_idx106_inb : ∀ (v334 : IVec S16 32) (k0_hw106 : k0_chk106 v334), ∀ a x, ((![v334] : Fin 1 → IVec S16 32) a x).toNat < S65536.size a := fun v334 k0_hw106 => k0_hw106

def k0_chk107 (v337 : IVec S16 32) : Prop :=
  (∀ a x, ((![v337] : Fin 1 → IVec S16 32) a x).toNat < S65536.size a)
theorem k0_idx107_inb : ∀ (v337 : IVec S16 32) (k0_hw107 : k0_chk107 v337), ∀ a x, ((![v337] : Fin 1 → IVec S16 32) a x).toNat < S65536.size a := fun v337 k0_hw107 => k0_hw107

def k0_chk108 (v340 : IVec S16 32) : Prop :=
  (∀ a x, ((![v340] : Fin 1 → IVec S16 32) a x).toNat < S65536.size a)
theorem k0_idx108_inb : ∀ (v340 : IVec S16 32) (k0_hw108 : k0_chk108 v340), ∀ a x, ((![v340] : Fin 1 → IVec S16 32) a x).toNat < S65536.size a := fun v340 k0_hw108 => k0_hw108

def k0_chk109 (v343 : IVec S16 32) : Prop :=
  (∀ a x, ((![v343] : Fin 1 → IVec S16 32) a x).toNat < S65536.size a)
theorem k0_idx109_inb : ∀ (v343 : IVec S16 32) (k0_hw109 : k0_chk109 v343), ∀ a x, ((![v343] : Fin 1 → IVec S16 32) a x).toNat < S65536.size a := fun v343 k0_hw109 => k0_hw109

def k0_chk110 (v346 : IVec S16 32) : Prop :=
  (∀ a x, ((![v346] : Fin 1 → IVec S16 32) a x).toNat < S65536.size a)
theorem k0_idx110_inb : ∀ (v346 : IVec S16 32) (k0_hw110 : k0_chk110 v346), ∀ a x, ((![v346] : Fin 1 → IVec S16 32) a x).toNat < S65536.size a := fun v346 k0_hw110 => k0_hw110

def k0_chk111 (v349 : IVec S16 32) : Prop :=
  (∀ a x, ((![v349] : Fin 1 → IVec S16 32) a x).toNat < S65536.size a)
theorem k0_idx111_inb : ∀ (v349 : IVec S16 32) (k0_hw111 : k0_chk111 v349), ∀ a x, ((![v349] : Fin 1 → IVec S16 32) a x).toNat < S65536.size a := fun v349 k0_hw111 => k0_hw111

def k0_chk112 (v352 : IVec S16 32) : Prop :=
  (∀ a x, ((![v352] : Fin 1 → IVec S16 32) a x).toNat < S65536.size a)
theorem k0_idx112_inb : ∀ (v352 : IVec S16 32) (k0_hw112 : k0_chk112 v352), ∀ a x, ((![v352] : Fin 1 → IVec S16 32) a x).toNat < S65536.size a := fun v352 k0_hw112 => k0_hw112

def k0_chk113 (v355 : IVec S16 32) : Prop :=
  (∀ a x, ((![v355] : Fin 1 → IVec S16 32) a x).toNat < S65536.size a)
theorem k0_idx113_inb : ∀ (v355 : IVec S16 32) (k0_hw113 : k0_chk113 v355), ∀ a x, ((![v355] : Fin 1 → IVec S16 32) a x).toNat < S65536.size a := fun v355 k0_hw113 => k0_hw113

def k0_chk114 (v358 : IVec S16 32) : Prop :=
  (∀ a x, ((![v358] : Fin 1 → IVec S16 32) a x).toNat < S65536.size a)
theorem k0_idx114_inb : ∀ (v358 : IVec S16 32) (k0_hw114 : k0_chk114 v358), ∀ a x, ((![v358] : Fin 1 → IVec S16 32) a x).toNat < S65536.size a := fun v358 k0_hw114 => k0_hw114

def k0_chk115 (v361 : IVec S16 32) : Prop :=
  (∀ a x, ((![v361] : Fin 1 → IVec S16 32) a x).toNat < S65536.size a)
theorem k0_idx115_inb : ∀ (v361 : IVec S16 32) (k0_hw115 : k0_chk115 v361), ∀ a x, ((![v361] : Fin 1 → IVec S16 32) a x).toNat < S65536.size a := fun v361 k0_hw115 => k0_hw115

def k0_chk116 (v364 : IVec S16 32) : Prop :=
  (∀ a x, ((![v364] : Fin 1 → IVec S16 32) a x).toNat < S65536.size a)
theorem k0_idx116_inb : ∀ (v364 : IVec S16 32) (k0_hw116 : k0_chk116 v364), ∀ a x, ((![v364] : Fin 1 → IVec S16 32) a x).toNat < S65536.size a := fun v364 k0_hw116 => k0_hw116

def k0_chk117 (v367 : IVec S16 32) : Prop :=
  (∀ a x, ((![v367] : Fin 1 → IVec S16 32) a x).toNat < S65536.size a)
theorem k0_idx117_inb : ∀ (v367 : IVec S16 32) (k0_hw117 : k0_chk117 v367), ∀ a x, ((![v367] : Fin 1 → IVec S16 32) a x).toNat < S65536.size a := fun v367 k0_hw117 => k0_hw117

def k0_chk118 (v370 : IVec S16 32) : Prop :=
  (∀ a x, ((![v370] : Fin 1 → IVec S16 32) a x).toNat < S65536.size a)
theorem k0_idx118_inb : ∀ (v370 : IVec S16 32) (k0_hw118 : k0_chk118 v370), ∀ a x, ((![v370] : Fin 1 → IVec S16 32) a x).toNat < S65536.size a := fun v370 k0_hw118 => k0_hw118

def k0_chk119 (v373 : IVec S16 32) : Prop :=
  (∀ a x, ((![v373] : Fin 1 → IVec S16 32) a x).toNat < S65536.size a)
theorem k0_idx119_inb : ∀ (v373 : IVec S16 32) (k0_hw119 : k0_chk119 v373), ∀ a x, ((![v373] : Fin 1 → IVec S16 32) a x).toNat < S65536.size a := fun v373 k0_hw119 => k0_hw119

def k0_chk120 (v376 : IVec S16 32) : Prop :=
  (∀ a x, ((![v376] : Fin 1 → IVec S16 32) a x).toNat < S65536.size a)
theorem k0_idx120_inb : ∀ (v376 : IVec S16 32) (k0_hw120 : k0_chk120 v376), ∀ a x, ((![v376] : Fin 1 → IVec S16 32) a x).toNat < S65536.size a := fun v376 k0_hw120 => k0_hw120

def k0_chk121 (v379 : IVec S16 32) : Prop :=
  (∀ a x, ((![v379] : Fin 1 → IVec S16 32) a x).toNat < S65536.size a)
theorem k0_idx121_inb : ∀ (v379 : IVec S16 32) (k0_hw121 : k0_chk121 v379), ∀ a x, ((![v379] : Fin 1 → IVec S16 32) a x).toNat < S65536.size a := fun v379 k0_hw121 => k0_hw121

def k0_chk122 (v382 : IVec S16 32) : Prop :=
  (∀ a x, ((![v382] : Fin 1 → IVec S16 32) a x).toNat < S65536.size a)
theorem k0_idx122_inb : ∀ (v382 : IVec S16 32) (k0_hw122 : k0_chk122 v382), ∀ a x, ((![v382] : Fin 1 → IVec S16 32) a x).toNat < S65536.size a := fun v382 k0_hw122 => k0_hw122

def k0_chk123 (v385 : IVec S16 32) : Prop :=
  (∀ a x, ((![v385] : Fin 1 → IVec S16 32) a x).toNat < S65536.size a)
theorem k0_idx123_inb : ∀ (v385 : IVec S16 32) (k0_hw123 : k0_chk123 v385), ∀ a x, ((![v385] : Fin 1 → IVec S16 32) a x).toNat < S65536.size a := fun v385 k0_hw123 => k0_hw123

def k0_chk124 (v388 : IVec S16 32) : Prop :=
  (∀ a x, ((![v388] : Fin 1 → IVec S16 32) a x).toNat < S65536.size a)
theorem k0_idx124_inb : ∀ (v388 : IVec S16 32) (k0_hw124 : k0_chk124 v388), ∀ a x, ((![v388] : Fin 1 → IVec S16 32) a x).toNat < S65536.size a := fun v388 k0_hw124 => k0_hw124

def k0_chk125 (v391 : IVec S16 32) : Prop :=
  (∀ a x, ((![v391] : Fin 1 → IVec S16 32) a x).toNat < S65536.size a)
theorem k0_idx125_inb : ∀ (v391 : IVec S16 32) (k0_hw125 : k0_chk125 v391), ∀ a x, ((![v391] : Fin 1 → IVec S16 32) a x).toNat < S65536.size a := fun v391 k0_hw125 => k0_hw125

def k0_chk126 (v394 : IVec S16 32) : Prop :=
  (∀ a x, ((![v394] : Fin 1 → IVec S16 32) a x).toNat < S65536.size a)
theorem k0_idx126_inb : ∀ (v394 : IVec S16 32) (k0_hw126 : k0_chk126 v394), ∀ a x, ((![v394] : Fin 1 → IVec S16 32) a x).toNat < S65536.size a := fun v394 k0_hw126 => k0_hw126

def k0_chk127 (v397 : IVec S16 32) : Prop :=
  (∀ a x, ((![v397] : Fin 1 → IVec S16 32) a x).toNat < S65536.size a)
theorem k0_idx127_inb : ∀ (v397 : IVec S16 32) (k0_hw127 : k0_chk127 v397), ∀ a x, ((![v397] : Fin 1 → IVec S16 32) a x).toNat < S65536.size a := fun v397 k0_hw127 => k0_hw127

def k0_chk128 (v400 : IVec S16 32) : Prop :=
  (∀ a x, ((![v400] : Fin 1 → IVec S16 32) a x).toNat < S65536.size a)
theorem k0_idx128_inb : ∀ (v400 : IVec S16 32) (k0_hw128 : k0_chk128 v400), ∀ a x, ((![v400] : Fin 1 → IVec S16 32) a x).toNat < S65536.size a := fun v400 k0_hw128 => k0_hw128
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_70 : BitVec 32 := 2#32
  let v205 : BitVec 32 := Scalar.muli v1 c2_i32_70
  let c1_i32_71 : BitVec 32 := 1#32
  let v206 : BitVec 32 := Scalar.addi v205 c1_i32_71
  let c16_i32_207 : BitVec 32 := 16#32
  let v402 : BitVec 32 := Scalar.muli v206 c16_i32_207
  let c4096_i32_208 : BitVec 32 := 4096#32
  let v403 : BitVec 32 := Scalar.muli v402 c4096_i32_208
  ![v403.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x4096 : Shape := ⟨2, ![1024, 4096]⟩
abbrev S1000x64 : Shape := ⟨2, ![1000, 64]⟩
abbrev S64000 : Shape := ⟨1, ![64000]⟩
abbrev S_ : Shape := ⟨0, ![]⟩
abbrev S64000x1 : Shape := ⟨2, ![64000, 1]⟩
abbrev S1 : Shape := ⟨1, ![1]⟩
abbrev S1x1 : Shape := ⟨2, ![1, 1]⟩
abbrev S1024x64000 : Shape := ⟨2, ![1024, 64000]⟩
abbrev S1024x1000x64 : Shape := ⟨3, ![1024, 1000, 64]⟩
abbrev S1x1000x64 : Shape := ⟨3, ![1, 1000, 64]⟩
abbrev S1024x1000 : Shape := ⟨2, ![1024, 1000]⟩

abbrev nBuf : Space → Nat
  | .hbm => 34
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1000x64, .f32⟩
  | .hbm, ⟨2, _⟩ => ⟨S1000x64, .i32⟩
  | .hbm, ⟨3, _⟩ => ⟨S64000, .i32⟩
  | .hbm, ⟨4, _⟩ => ⟨S_, .i32⟩
  | .hbm, ⟨5, _⟩ => ⟨S64000, .i32⟩
  | .hbm, ⟨6, _⟩ => ⟨S64000, .i1⟩
  | .hbm, ⟨7, _⟩ => ⟨S_, .i32⟩
  | .hbm, ⟨8, _⟩ => ⟨S64000, .i32⟩
  | .hbm, ⟨9, _⟩ => ⟨S64000, .i32⟩
  | .hbm, ⟨10, _⟩ => ⟨S64000, .i32⟩
  | .hbm, ⟨11, _⟩ => ⟨S64000x1, .i32⟩
  | .hbm, ⟨12, _⟩ => ⟨S1, .i32⟩
  | .hbm, ⟨13, _⟩ => ⟨S_, .i32⟩
  | .hbm, ⟨14, _⟩ => ⟨S64000x1, .i32⟩
  | .hbm, ⟨15, _⟩ => ⟨S64000x1, .i1⟩
  | .hbm, ⟨16, _⟩ => ⟨S1x1, .i32⟩
  | .hbm, ⟨17, _⟩ => ⟨S64000x1, .i32⟩
  | .hbm, ⟨18, _⟩ => ⟨S64000x1, .i1⟩
  | .hbm, ⟨19, _⟩ => ⟨S64000x1, .i1⟩
  | .hbm, ⟨20, _⟩ => ⟨S_, .i1⟩
  | .hbm, ⟨21, _⟩ => ⟨S64000, .i1⟩
  | .hbm, ⟨22, _⟩ => ⟨S1024x64000, .f32⟩
  | .hbm, ⟨23, _⟩ => ⟨S1024x64000, .i1⟩
  | .hbm, ⟨24, _⟩ => ⟨S_, .f32⟩
  | .hbm, ⟨25, _⟩ => ⟨S1024x64000, .f32⟩
  | .hbm, ⟨26, _⟩ => ⟨S1024x64000, .f32⟩
  | .hbm, ⟨27, _⟩ => ⟨S1024x1000x64, .f32⟩
  | .hbm, ⟨28, _⟩ => ⟨S1x1000x64, .f32⟩
  | .hbm, ⟨29, _⟩ => ⟨S1024x1000x64, .f32⟩
  | .hbm, ⟨30, _⟩ => ⟨S1024x1000x64, .f32⟩
  | .hbm, ⟨31, _⟩ => ⟨S_, .f32⟩
  | .hbm, ⟨32, _⟩ => ⟨S1024x1000, .f32⟩
  | .hbm, ⟨33, _⟩ => ⟨S1024x1000, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩

abbrev nD : Nat := 1
abbrev τ : Topo := Topo.v7x

variable {F : FTy → Type} [FloatOps F]
-- ==== Proof.Pre.lean ====
/-
  The two preconditions decoded: column numbers below 4096, entries of the float inputs real numbers.
-/
module

public import proofs.«01_k».proof.Defs
public import Idealize.ShloMosaic.Lib.ReduceAll
public import Idealize.ShloMosaic.Lib.StableHlo.Predicate

@[expose] public section

noncomputable section

namespace Cert.Proof

open Idealize.ShloMosaic
open Idealize.ShloMosaic.StableHlo

theorem and_one {a b : BitVec 1} (h : IntOp.andi a b = 1#1) : a = 1#1 ∧ b = 1#1 := by
  revert a b; decide

/-- A word that is signed at least 0 and signed below 4096 is below 4096. -/
theorem toNat_lt_of_cmpi {a : BitVec 32} (h0 : IntOp.cmpi .sge a 0#32 = 1#1) (h1 : IntOp.cmpi .slt a 4096#32 = 1#1) : a.toNat < 4096 := by
  simp only [IntOp.cmpi, Predicate.ofBool_eq_one_iff, BitVec.sle_eq_decide, BitVec.slt_eq_decide, decide_eq_true_eq, BitVec.toInt_eq_toNat_cond, BitVec.toNat_ofNat] at h0 h1
  have := a.isLt
  split at h1 <;> simp_all <;> omega

/-- The bound on the column numbers from its two printed reductions. -/
theorem below_of_reduce {s : Shape} {u : Shape} [Subsingleton u.Idx] {axes : List (Fin s.rank)} (x : IVec s 32) (z0 z1 : IVec s 32) (hz0 : ∀ i, z0 i = 0#32)
    (hz1 : ∀ i, z1 i = 4096#32) (i0 i1 : IVec u 1) (h : s.ReducesTo axes u) (hu : 0 < u.numel) (j : u.Idx)
    (h0 : Host.reduce IntOp.andi (cmpi .sge x z0) i0 h hu j = 1#1) (h1 : Host.reduce IntOp.andi (cmpi .slt x z1) i1 h hu j = 1#1) (i : s.Idx) :
    (x i).toNat < 4096 := by
  have e0 := Host.reduce_andi_all _ _ h hu j h0 i
  have e1 := Host.reduce_andi_all _ _ h hu j h1 i
  simp only [cmpi, hz0, hz1] at e0 e1
  exact toNat_lt_of_cmpi e0 e1

instance {α : Fin 0 → Type} : Subsingleton ((i : Fin 0) → α i) := ⟨fun a b => funext fun i => i.elim0⟩

/-- A number whose absolute value is below infinity is real. -/
theorem real_of_abs_lt {a : Ideal .f32} (h : FloatOps.cmpf .olt (FloatOps.hostAbsf a) (FloatOps.ofBits (F := Ideal) .f32 0x7F800000#32) = 1#1) :
    ∃ r : ℝ, a = (r : EReal) := by
  have h' : max (a : EReal) (-a) < ⊤ := by
    have htop : Ideal.ofBits .f32 0x7F800000#32 = ⊤ := by simp [Ideal.ofBits, Ideal.ieee]
    have h2 : Ideal.cmp .olt (max (a : EReal) (-a)) (Ideal.ofBits .f32 0x7F800000#32) = 1#1 := h
    rw [htop] at h2
    simpa [Ideal.cmp, Predicate.ofBool_eq_one_iff] using h2
  induction a using EReal.rec with
  | bot => simp at h'
  | top => simp at h'
  | coe r => exact ⟨r, rfl⟩

theorem in_range [Cert.Pre_in_range.Facts] {F : FTy → Type} [FloatOps F] {x : FVec F Cert.Pre_in_range.S1024x4096 .f32} {w : FVec F Cert.Pre_in_range.S1000x64 .f32}
    {cm : IVec Cert.Pre_in_range.S1000x64 32} (h : Cert.Pre_in_range.fn (F := F) x w cm = fun _ => 1#1) (i : Cert.Pre_in_range.S1000x64.Idx) :
    (cm i).toNat < 4096 := by
  have e := and_one (congrFun h (fun a => a.elim0))
  exact below_of_reduce cm _ _ (fun _ => rfl) (fun _ => rfl) _ _ _ _ _ e.1 e.2 i

/-- The entries of an array whose absolute values are all below infinity are real. -/
theorem real_of_reduce {s : Shape} {u : Shape} [Subsingleton u.Idx] {axes : List (Fin s.rank)} (x z : FVec Ideal s .f32)
    (hz : ∀ i, z i = FloatOps.ofBits (F := Ideal) .f32 0x7F800000#32) (i0 : IVec u 1) (h : s.ReducesTo axes u) (hu : 0 < u.numel) (j : u.Idx)
    (h0 : Host.reduce IntOp.andi (cmpf .olt (Host.absf x) z) i0 h hu j = 1#1) (i : s.Idx) : ∃ r : ℝ, x i = (r : EReal) := by
  have e0 : FloatOps.cmpf .olt (FloatOps.hostAbsf (x i)) (z i) = 1#1 := Host.reduce_andi_all _ _ h hu j h0 i
  rw [hz] at e0
  exact real_of_abs_lt e0

theorem finite_and_in_range [Cert.Pre_finite_and_in_range.Facts] {x : FVec Ideal Cert.Pre_finite_and_in_range.S1024x4096 .f32}
    {w : FVec Ideal Cert.Pre_finite_and_in_range.S1000x64 .f32} {cm : IVec Cert.Pre_finite_and_in_range.S1000x64 32}
    (h : Cert.Pre_finite_and_in_range.fn (F := Ideal) x w cm = fun _ => 1#1) :
    (∀ i, ∃ r : ℝ, x i = (r : EReal)) ∧ (∀ i, ∃ r : ℝ, w i = (r : EReal)) ∧ ∀ i, (cm i).toNat < 4096 := by
  obtain ⟨e, e4⟩ := and_one (congrFun h (fun a => a.elim0))
  obtain ⟨e, e3⟩ := and_one e
  obtain ⟨e1, e2⟩ := and_one e
  exact ⟨real_of_reduce x _ (fun _ => rfl) _ _ _ _ e1, real_of_reduce w _ (fun _ => rfl) _ _ _ _ e2,
    below_of_reduce cm _ _ (fun _ => rfl) (fun _ => rfl) _ _ _ _ _ e3 e4⟩

end Cert.Proof
-- ==== Proof.Ideal.Program.lean ====
/-
  The tile kernel written as what it is: two rounds, each two copies in, a loop of zero stores, sixty-four scatters
  and a copy out.  The printed kernel is the same program, operation for operation.
-/
module

public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic
open Idealize.SL Idealize.SL.Sem

variable {F : FTy → Type} [FloatOps F]

/-- The programs of a tile. -/
abbrev TProg (F : FTy → Type) (i : grid0.Coords) : Type → Type 1 :=
  Prog (TpuEff nD τ sig (Elt F) Λ₀ (.scVector ((i 0).castLE hcore0) ((i 1).castLE hsub0)))

/-- Lane `l`'s offset into the accumulator: the start of row `l` of 4096 words. -/
def lanes : IVec S16 32 :=
  muli (iota .scVector S16 32 [0] iota_S16_d0_w32_scVector) (broadcast S16 (4096#32 : BitVec 32))

/-- The vector of sixteen zeros. -/
def zeros : FVec F S16 .f32 := broadcast S16 (Scalar.ofBits .f32 0x00000000#32)

theorem rowIn (j : ℕ) (h : j < 64) : ∀ a, (![16 * j] : Fin 1 → ℕ) a + S16.size a ≤ S1024.size a := by
  intro a
  match a with
  | 0 => show 16 * j + 16 ≤ 1024; omega

/-- The sixteen words of row `j` of a 1024-word block. -/
abbrev rowRect (j : ℕ) (h : j < 64) : Rect S1024 := Rect.unit (s := S1024) ![16 * j] S16.size (rowIn j h)

/-- Scatter `j`: load the sixteen column numbers of row `j`, load their weights, add each weight to its lane's row. -/
def scat (i : grid0.Coords) (arg5 : Memref sig .scVector .vmem S1024 .i32) (arg6 : Memref sig .scVector .vmem S1024 .f32)
    (arg7 : Memref sig .scVector .vmem S65536 .f32) (j : ℕ) (h : j < 64) : TProg F i PUnit := do
  let v : Vec F S16 .i32 ← Prog.lift (.load arg5 (rowRect j h).toLoadRect (View.loadsAt_vmem h_S16))
  have hv : k0_chk1 (addi lanes v) := (← Prog.lift (TpuEff.assume (k0_chk1 (addi lanes v)) (k0_chk1.dec (addi lanes v)))).down
  let w : Vec F S16 .f32 ← Prog.lift (.load arg6 (rowRect j h).toLoadRect (View.loadsAt_vmem h_S16))
  SparseCore.vectorStoreIdx arg7 ![addi lanes v] w (fun _ => 1#1) true (k0_idx1_inb _ hv) (View.stores_vmem_bits_univ h_S65536 rfl)

/-- The last `n` scatters, the first of them number `j`. -/
def scats (i : grid0.Coords) (arg5 : Memref sig .scVector .vmem S1024 .i32) (arg6 : Memref sig .scVector .vmem S1024 .f32)
    (arg7 : Memref sig .scVector .vmem S65536 .f32) : (n j : ℕ) → n + j = 64 → TProg F i PUnit
  | 0, _, _ => pure ⟨⟩
  | n + 1, j, h => do
    scat i arg5 arg6 arg7 j (by omega)
    scats i arg5 arg6 arg7 n (j + 1) (by omega)

/-- One store of the zero loop, at the sixteen words numbered `8 t + r`. -/
def zeroSt (i : grid0.Coords) (arg7 : Memref sig .scVector .vmem S65536 .f32) (t : Fin k0_t1_loop.trips) (r : ℕ) (h : r < 8) : TProg F i PUnit := do
  let _ : Vec F S16 .f32 ← Prog.lift (.load arg7 (Rect.unit (s := S65536) (k0_off2 t (BitVec.ofNat 32 r)) S16.size (k0_off2_inb t ⟨r, h⟩)).toLoadRect (View.loadsAt_vmem h_S16))
  Prog.lift (.store arg7 (Rect.unit (s := S65536) (k0_off2 t (BitVec.ofNat 32 r)) S16.size (k0_off2_inb t ⟨r, h⟩)) zeros Finset.univ (View.stores_vmem_bits_univ h_S16 rfl) (.inl rfl))

/-- The last `n` stores of a trip, the first of them number `r`. -/
def zeroSts (i : grid0.Coords) (arg7 : Memref sig .scVector .vmem S65536 .f32) (t : Fin k0_t1_loop.trips) : (n r : ℕ) → n + r = 8 → TProg F i PUnit
  | 0, _, _ => pure ⟨⟩
  | n + 1, r, h => do
    zeroSt i arg7 t r (by omega)
    zeroSts i arg7 t n (r + 1) (by omega)

section Kernel

variable (i : grid0.Coords) (arg2 : Memref sig .scVector .hbm S65536 .i32) (harg2 : arg2.IsWhole)
  (arg3 : Memref sig .scVector .hbm S65536 .f32) (harg3 : arg3.IsWhole) (arg4 : Memref sig .scVector .hbm S4194304 .f32) (harg4 : arg4.IsWhole)
  (arg5 : Memref sig .scVector .vmem S1024 .i32) (harg5 : arg5.IsWhole) (arg6 : Memref sig .scVector .vmem S1024 .f32) (harg6 : arg6.IsWhole)
  (arg7 : Memref sig .scVector .vmem S65536 .f32) (harg7 : arg7.IsWhole)
  (s0 s1 s2 s3 s4 s5 : DmaSems sig S_)

/-- The zero loop: 512 trips. -/
def zeroLoop : TProg F i PUnit := Scf.Loop.for k0_t1_loop k0_t1_ok ⟨⟩ fun t _ => zeroSts i arg7 t 8 0 rfl

/-- The start of a round: the column numbers and the weights of the block at `o` copied in, each copy waited for. -/
def copyIn (o : Fin 1 → ℕ) (ho : ∀ a, o a + S1024.size a ≤ S65536.size a) (sa sb : DmaSems sig S_) : TProg F i PUnit := do
  Prog.lift (.enqueueDma (arg2.slice (Rect.unit (s := S65536) o S1024.size ho) (fun _ => rfl)) (.here arg5) (.dma sa.sem) (View.wordExact_bits rfl) harg5.wordExact ⟨Or.inl rfl, trivial⟩)
  Prog.lift (.waitDma2 sa.sem (arg2.slice (Rect.unit (s := S65536) o S1024.size ho) (fun _ => rfl)) arg5 (View.wordExact_bits rfl) harg5.wordExact)
  Prog.lift (.enqueueDma (arg3.slice (Rect.unit (s := S65536) o S1024.size ho) (fun _ => rfl)) (.here arg6) (.dma sb.sem) (View.wordExact_bits rfl) harg6.wordExact ⟨Or.inl rfl, trivial⟩)
  Prog.lift (.waitDma2 sb.sem (arg3.slice (Rect.unit (s := S65536) o S1024.size ho) (fun _ => rfl)) arg6 (View.wordExact_bits rfl) harg6.wordExact)

/-- The end of a round: the accumulator copied out to the block at `o`, the copy waited for. -/
def copyOut (o : Fin 1 → ℕ) (ho : ∀ a, o a + S65536.size a ≤ S4194304.size a) (sc : DmaSems sig S_) : TProg F i PUnit := do
  Prog.lift (.enqueueDma arg7 (.here (arg4.slice (Rect.unit (s := S4194304) o S65536.size ho) (fun _ => rfl))) (.dma sc.sem) harg7.wordExact (View.wordExact_bits rfl) ⟨Or.inl rfl, trivial⟩)
  Prog.lift (.waitDma2 sc.sem arg7 (arg4.slice (Rect.unit (s := S4194304) o S65536.size ho) (fun _ => rfl)) harg7.wordExact (View.wordExact_bits rfl))

/-- One round: copy in, zero the accumulator, scatter the block's sixty-four rows, copy out. -/
def round (o : Fin 1 → ℕ) (ho : ∀ a, o a + S1024.size a ≤ S65536.size a) (o' : Fin 1 → ℕ) (ho' : ∀ a, o' a + S65536.size a ≤ S4194304.size a)
    (sa sb sc : DmaSems sig S_) : TProg F i PUnit := do
  copyIn i arg2 arg3 arg5 harg5 arg6 harg6 o ho sa sb
  zeroLoop i arg7
  scats i arg5 arg6 arg7 64 0 rfl
  copyOut i arg4 arg7 harg7 o' ho' sc

/-- How the printed kernel's text runs: its first part holds the first loop, and the second loop comes inside a later part. -/
theorem body_cut : ∃ G K K1, ∃ K2 : (Σ' (_ : BitVec 32), IVec S16 32) → TProg F i PUnit,
    k0_part3 (F := F) i arg2 harg2 arg3 harg3 arg4 harg4 arg5 harg5 arg6 harg6 arg7 harg7 s0 s1 s2 s3 s4 s5
      = (copyIn i arg2 arg3 arg5 harg5 arg6 harg6 (k0_off1 i) (k0_off1_inb i) s0 s1 >>= fun _ => zeroLoop i arg7 >>= G)
    ∧ cc0_k (F := F) i arg2 harg2 arg3 harg3 arg4 harg4 arg5 harg5 arg6 harg6 arg7 harg7 s0 s1 s2 s3 s4 s5
      = (k0_part3 i arg2 harg2 arg3 harg3 arg4 harg4 arg5 harg5 arg6 harg6 arg7 harg7 s0 s1 s2 s3 s4 s5 >>= K)
    ∧ (G ⟨⟩ >>= K) = (scats i arg5 arg6 arg7 64 0 rfl >>= fun _ => copyOut i arg4 arg7 harg7 (k0_off3 i) (k0_off3_inb i) s2 >>= fun _ =>
        copyIn i arg2 arg3 arg5 harg5 arg6 harg6 (k0_off4 i) (k0_off4_inb i) s3 s4 >>= fun _ => (zeroLoop i arg7 >>= K1) >>= K2)
    ∧ (K1 ⟨⟩ >>= K2) = (scats i arg5 arg6 arg7 64 0 rfl >>= fun _ => copyOut i arg4 arg7 harg7 (k0_off6 i) (k0_off6_inb i) s5) :=
  ⟨_, _, _, _, rfl, rfl, rfl, rfl⟩

/-- The printed kernel is two rounds. -/
theorem body_eq : cc0_k (F := F) i arg2 harg2 arg3 harg3 arg4 harg4 arg5 harg5 arg6 harg6 arg7 harg7 s0 s1 s2 s3 s4 s5
    = (do
        round i arg2 arg3 arg4 arg5 harg5 arg6 harg6 arg7 harg7 (k0_off1 i) (k0_off1_inb i) (k0_off3 i) (k0_off3_inb i) s0 s1 s2
        round i arg2 arg3 arg4 arg5 harg5 arg6 harg6 arg7 harg7 (k0_off4 i) (k0_off4_inb i) (k0_off6 i) (k0_off6_inb i) s3 s4 s5) := by
  obtain ⟨G, K, K1, K2, h3, hc, h1, h2⟩ := body_cut (F := F) i arg2 harg2 arg3 harg3 arg4 harg4 arg5 harg5 arg6 harg6 arg7 harg7 s0 s1 s2 s3 s4 s5
  rw [hc, h3]
  have e1 : (fun x : PUnit => G x >>= K) = fun _ => G ⟨⟩ >>= K := rfl
  have e2 : (fun x : PUnit => K1 x >>= K2) = fun _ => K1 ⟨⟩ >>= K2 := rfl
  simp only [round, bind_assoc, e1, h1, e2, h2]

end Kernel

end Cert.Proof.KernelIdeal

end
-- ==== Proof.Ideal.Scatter.lean ====
/-
  What one scatter of sixteen lanes does to the accumulator.  Lane `l` adds into row `l` of 4096 words, so no two lanes
  meet, and the accumulator's word at row `l`, column `c` takes lane `l`'s weight when lane `l`'s column number is `c`.
-/
module

public import proofs.«01_k».proof.Proof.Ideal.Program

@[expose] public section

noncomputable section

namespace Cert.Proof.KernelIdeal

open Cert.KernelIdeal Cert.KernelIdeal.Gen
open Idealize.ShloMosaic

variable {F : FTy → Type} [FloatOps F]

/-- The lane whose row the accumulator's word `y` lies in. -/
def laneOf (y : S65536.Idx) : S16.Idx := Shape.ofLane (d := ![16]) (⟨(y 0).val / 4096, by
  have h : (y 0).val < 65536 := (y 0).isLt
  omega⟩ : Fin 16)

/-- The column of the accumulator's word `y` in its row. -/
def colOf (y : S65536.Idx) : ℕ := (y 0).val % 4096

/-- The accumulator after a scatter of the weights `w` at the column numbers `v`. -/
def step (v : IVec S16 32) (w : Vec F S16 .f32) (g : Vec F S65536 .f32) : Vec F S65536 .f32 := fun y =>
  if (v (laneOf y)).toNat = colOf y then FloatOps.idxAddf (g y) (w (laneOf y)) else g y

/-- Lane `x`'s row starts at word `4096 · x`. -/
theorem lanes_apply (x : S16.Idx) : lanes x = BitVec.ofNat 32 (4096 * (x 0).val) := by
  have hx : (x 0).val < 16 := (x 0).isLt
  have hi : iota .scVector S16 32 [0] iota_S16_d0_w32_scVector x = BitVec.ofNat 32 (x 0).val := by
    simp only [iota, List.foldl, Nat.zero_mul, Nat.zero_add]
  show IntOp.muli (iota .scVector S16 32 [0] iota_S16_d0_w32_scVector x) 4096#32 = _
  rw [hi]
  apply BitVec.eq_of_toNat_eq
  show (BitVec.ofNat 32 (x 0).val * 4096#32).toNat = _
  simp only [BitVec.toNat_mul, BitVec.toNat_ofNat]
  omega

/-- The word lane `x` adds into. -/
theorem word_toNat (v : IVec S16 32) (hv : ∀ x, (v x).toNat < 4096) (x : S16.Idx) :
    (addi lanes v x).toNat = 4096 * (x 0).val + (v x).toNat := by
  have hx : (x 0).val < 16 := (x 0).isLt
  have h := hv x
  show (lanes x + v x).toNat = _
  rw [lanes_apply, BitVec.toNat_add, BitVec.toNat_ofNat]
  omega

/-- Column numbers below 4096 keep every lane inside the accumulator. -/
theorem chk_of (v : IVec S16 32) (hv : ∀ x, (v x).toNat < 4096) : k0_chk1 (addi lanes v) := by
  intro a x
  obtain rfl : a = 0 := Subsingleton.elim _ _
  show (addi lanes v x).toNat < 65536
  have hx : (x 0).val < 16 := (x 0).isLt
  rw [word_toNat v hv]
  have := hv x
  omega

/-- Adding at pairwise different places one after another adds at each place once. -/
theorem foldl_add_apply {I K A : Type} [DecidableEq K] (pos : K → I → Prop) [∀ k y, Decidable (pos k y)] (add : K → A → A) (y : I) (k₀ : K)
    (hk : ∀ k, pos k y → k = k₀) (f : K → (I → A) → I → A) (hf : ∀ k g, f k g y = if pos k y then add k (g y) else g y) :
    ∀ (l : List K), l.Nodup → ∀ g : I → A, (l.foldl (fun g k => f k g) g) y = if k₀ ∈ l ∧ pos k₀ y then add k₀ (g y) else g y
  | [], _, g => by simp
  | k :: l, hl, g => by
    rw [List.foldl_cons, foldl_add_apply pos add y k₀ hk f hf l (List.nodup_cons.mp hl).2, hf]
    by_cases h : pos k y
    · obtain rfl := hk k h
      rw [if_pos h, if_neg (fun h' => (List.nodup_cons.mp hl).1 h'.1), if_pos ⟨List.mem_cons_self, h⟩]
    · rw [if_neg h]
      by_cases h0 : pos k₀ y
      · have hne : k₀ ≠ k := fun e => h (e ▸ h0)
        simp only [List.mem_cons, hne, false_or]
      · simp only [h0, and_false]

/-- A scatter of sixteen lanes is one `step`. -/
theorem storeIdx_step (v : IVec S16 32) (hv : ∀ x, (v x).toNat < 4096) (w : Vec F S16 .f32) (g : Vec F S65536 .f32)
    (h : ∀ a x, ((![addi lanes v] : Fin 1 → IVec S16 32) a x).toNat < S65536.size a) :
    storeIdx (s := S65536) (d := ![16]) g ![addi lanes v] w (fun _ => 1#1) true h = step v w g := by
  funext y
  have hy : (y 0).val < 65536 := (y 0).isLt
  have hpos : ∀ k : Fin 16, ((4096 * k.val + (v (Shape.ofLane (d := ![16]) k)).toNat = (y 0).val) ↔ ∀ a, (y a).val
      = (idxAt (s := S65536) (![addi lanes v] : Fin 1 → IVec S16 32) h (Shape.ofLane (d := ![16]) k) a).val) := by
    intro k
    have e : (addi lanes v (Shape.ofLane (d := ![16]) k)).toNat = 4096 * k.val + (v (Shape.ofLane (d := ![16]) k)).toNat := word_toNat v hv _
    constructor
    · intro hk a
      obtain rfl : a = 0 := Subsingleton.elim _ _
      show _ = (addi lanes v (Shape.ofLane (d := ![16]) k)).toNat
      rw [e, hk]
    · intro hk
      have := hk 0
      rw [show (idxAt (s := S65536) (![addi lanes v] : Fin 1 → IVec S16 32) h (Shape.ofLane (d := ![16]) k) 0).val
        = (addi lanes v (Shape.ofLane (d := ![16]) k)).toNat from rfl, e] at this
      exact this.symm
  have hl : Shape.ofLane (d := ![16]) (⟨(y 0).val / 4096, by show _ < 16; omega⟩ : Fin 16) = laneOf y := by
    rfl
  unfold storeIdx
  refine (foldl_add_apply (K := Fin 16) (fun k y => 4096 * k.val + (v (Shape.ofLane (d := ![16]) k)).toNat = (y 0).val)
    (fun k a => FloatOps.idxAddf a (w (Shape.ofLane (d := ![16]) k))) y ⟨(y 0).val / 4096, by omega⟩ ?_ _ ?_ (List.finRange 16) (List.nodup_finRange 16) g).trans ?_
  · intro k hk
    have := hv (Shape.ofLane (d := ![16]) k)
    apply Fin.ext; show k.val = (y 0).val / 4096; omega
  · intro k g
    refine (congrFun (if_pos (show (1#1 : BitVec 1) = 1 from rfl)) y).trans ?_
    by_cases hk : ∀ a, (y a).val = (idxAt (s := S65536) (![addi lanes v] : Fin 1 → IVec S16 32) h (Shape.ofLane (d := ![16]) k) a).val
    · refine (if_pos hk).trans ?_
      rw [if_pos ((hpos k).mpr hk)]
      have e : idxAt (s := S65536) (![addi lanes v] : Fin 1 → IVec S16 32) h (Shape.ofLane (d := ![16]) k) = y := funext fun a => Fin.ext (hk a).symm
      exact congrArg (fun i => FloatOps.idxAddf (g i) (w (Shape.ofLane (d := ![16]) k))) e
    · refine (if_neg hk).trans ?_
      rw [if_neg (fun h' => hk ((hpos k).mp h'))]
  · unfold step colOf
    rw [hl]
    have hlv := hv (laneOf y)
    by_cases hc : (v (laneOf y)).toNat = (y 0).val % 4096
    · rw [if_pos ⟨List.mem_finRange _, by show 4096 * ((y 0).val / 4096) + _ = _; omega⟩, if_pos hc]
    · rw [if_neg (fun h' => hc (by have := h'.2; simp only at this; omega)), if_neg hc]

end Cert.Proof.KernelIdeal

end
-- ==== Proof.Ideal.Setup.lean ====
/-
  The program as the launch theorem sees it, the resources of the proof, and the buffers by name.
-/
module

public import proofs.«01_k».proof.Proof.Ideal.Scatter
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal.Launch

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels below the SparseCore launch: the kernels' and the one TensorCore region's. -/
abbrev ΛP : Labels := Pipeline.Sig Λ₀ (Fin 1) fun p => (pcfgs (F := F) p).Adm
/-- The SparseCore launch. -/
abbrev K : SparseCore.Cfg τ sig (ΛP (F := F)) 1 := sc (F := F)
/-- The bodies below the launch. -/
abbrev D [FloatOps F] : Defs nD τ sig (Elt F) (ΛP (F := F)) := Pipeline.defs pcfgs defs₀
/-- No kernel body recurses. -/
abbrev 𝒱₀ : Variants := Variants.none
/-- The same for the lifted table. -/
abbrev 𝒱 : Variants := 𝒱₀.lift
/-- The threads' start. -/
abbrev v₀ : 𝒱.V := Sum.inl none

/-- The launch's semaphores are four different ones, none scoped, and no buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's rounds, -/
abbrev UH : Type := URounds (GSem nD τ sig) ℕ
/-- the region's staging rounds, -/
abbrev UP : Type := URounds (GSem nD τ sig) Unit
/-- and the transfers' counters, side by side. -/
abbrev UU : Type := UH × (UP × Counters)

local notation "𝕄" => MT nD τ sig (HIx 1) (Elt F) ℕ UU ℕ

/-- The launch's rounds in the machine's algebra. -/
abbrev EH : Emb UH (MT nD τ sig (HIx 1) (Elt F) ℕ UU ℕ) := embL
/-- The region's rounds in the machine's algebra. -/
abbrev EP : Emb UP (MT nD τ sig (HIx 1) (Elt F) ℕ UU ℕ) := (Emb.inl : Emb UP (UP × Counters)).trans embR

instance EP_landsIn : (EP : Emb UP 𝕄).LandsIn (upEmb : UEmb _ 𝕄) := inferInstance

/-! ## The buffers -/

/-- The column numbers, the weights and the accumulated table in shared memory, as a tile names them. -/
abbrev iV : Memref sig .scVector .hbm S65536 .i32 := Memref.whole main_v3_scv
abbrev wV : Memref sig .scVector .hbm S65536 .f32 := Memref.whole main_v7_scv
abbrev oV : Memref sig .scVector .hbm S4194304 .f32 := Memref.whole main_v8_scv
/-- A tile's own: a block of column numbers, a block of weights, the accumulator. -/
abbrev sI : Memref sig .scVector .vmem S1024 .i32 := Memref.whole cc0_scratch0
abbrev sW : Memref sig .scVector .vmem S1024 .f32 := Memref.whole cc0_scratch1
abbrev sO : Memref sig .scVector .vmem S65536 .f32 := Memref.whole cc0_scratch2

/-- The three shared arrays as locations. -/
abbrev iLoc (d : Dev nD) : Loc nD τ sig := (SparseCore.T d).loc main_v3
abbrev wLoc (d : Dev nD) : Loc nD τ sig := (SparseCore.T d).loc main_v7
abbrev oLoc (d : Dev nD) : Loc nD τ sig := (SparseCore.T d).loc main_v8

/-- The tile at grid coordinates `L`. -/
abbrev thr (d : Dev nD) (L : grid0.Coords) : Thread nD τ := V d ((L 0).castLE hcore0) ((L 1).castLE hsub0)

end Cert.Proof.KernelIdeal

end
-- ==== Proof.Ideal.Scats.lean ====
/-
  The sixty-four scatters of a block run: from the accumulator after the first `j` of them to the accumulator after all.
-/
module

public import proofs.«01_k».proof.Proof.Ideal.Setup

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Row `j` of a 1024-word block: its words `16 j` to `16 j + 15`. -/
def rowOf {α : Type} (f : S1024.Idx → α) (j : ℕ) : S16.Idx → α := fun x => f (Shape.ofLane (d := ![1024]) (⟨(16 * j + (x 0).val) % 1024, Nat.mod_lt _ (by decide)⟩ : Fin 1024))

section Values

variable [FloatOps F]

/-- The accumulator after the first `n` scatters of the block with column numbers `v` and weights `w`. -/
def accN (v : S1024.Idx → BitVec 32) (w : S1024.Idx → F .f32) : ℕ → Vec F S65536 .f32
  | 0 => fun _ => Scalar.ofBits .f32 0x00000000#32
  | j + 1 => step (rowOf v j) (rowOf w j) (accN v w j)

end Values

/-- A load of row `j` reads row `j`. -/
theorem rowRect_idx (j : ℕ) (h : j < 64) (x : S16.Idx) :
    (rowRect j h).toLoadRect.idx x = Shape.ofLane (d := ![1024]) (⟨(16 * j + (x 0).val) % 1024, Nat.mod_lt _ (by decide)⟩ : Fin 1024) := by
  have hx : (x 0).val < 16 := (x 0).isLt
  funext a
  obtain rfl : a = 0 := Subsingleton.elim _ _
  apply Fin.ext
  rw [LoadRect.idx_apply]
  show 16 * j + 1 * (x 0).val = (16 * j + (x 0).val) % 1024
  omega

theorem read_sI (j : ℕ) (h : j < 64) (f : S1024.Idx → BitVec 32) :
    (sI).view.readAt (Elt F) (rowRect j h).toLoadRect f = rowOf f j := by
  funext x
  simp only [View.readAt_apply, Memref.view_whole, View.read_whole]
  rw [rowRect_idx]; rfl

theorem read_sW (j : ℕ) (h : j < 64) (f : S1024.Idx → Elt F .f32) :
    (sW).view.readAt (Elt F) (rowRect j h).toLoadRect f = rowOf f j := by
  funext x
  simp only [View.readAt_apply, Memref.view_whole, View.read_whole]
  rw [rowRect_idx]; rfl

variable [FloatOps F]

variable (d : Dev nD) (L : grid0.Coords)

/-- The accumulator outright, as a scatter addresses it. -/
theorem pts_sO_whole (f : Buf (Elt F) ((thr d L).loc cc0_scratch2)) :
    (((sO).access (.whole S65536)).loc (thr d L) ↦[((sO).access (.whole S65536)).set]{fullShare} f : sProp 𝕄)
      = (thr d L).loc cc0_scratch2 ↦{fullShare} f := by
  rw [show ((sO).access (.whole S65536)).set = Finset.univ from Memref.set_access_whole (cc0_scratch2 : Ref sig .scVector)]

/-- What a scatter of the loaded rows leaves is one `step`. -/
theorem scat_lands (g : Vec F S65536 .f32) (v vv : IVec S16 32) (w ww : Vec F S16 .f32) (hv : ∀ x, (v x).toNat < 4096) (ev : vv = v) (ew : ww = w)
    (h : ∀ a x, ((![addi lanes vv] : Fin 1 → IVec S16 32) a x).toNat < S65536.size a) :
    ((sO).access (.whole S65536)).write (Elt F) g
      (storeIdx (s := S65536) (d := ![16]) (((sO).access (.whole S65536)).read (Elt F) g) ![addi lanes vv] ww (fun _ => 1#1) true h) Finset.univ
      = step v w g := by
  subst ev ew
  refine (Memref.write_access_whole_univ (Elt F) (cc0_scratch2 : Ref sig .scVector) g _).trans ?_
  refine Eq.trans ?_ (storeIdx_step vv hv ww g h)
  exact congrArg (fun f => storeIdx (s := S65536) (d := ![16]) f ![addi lanes vv] ww (fun _ => 1#1) true h)
    (Memref.read_access_whole (Elt F) (cc0_scratch2 : Ref sig .scVector) g)

/-- One scatter. -/
theorem wp_scat {A : Type} (v : S1024.Idx → BitVec 32) (hv : ∀ x, (v x).toNat < 4096) (w : S1024.Idx → F .f32) (g : Vec F S65536 .f32)
    (j : ℕ) (h : j < 64) (k : PUnit → TProg F L A) (Q : A → sProp 𝕄) :
    iprop(((sI).view.loc (thr d L) ↦{fullShare} v) ∗ ((sW).view.loc (thr d L) ↦{fullShare} w) ∗ ((thr d L).loc cc0_scratch2 ↦{fullShare} g)
        ∗ (((sI).view.loc (thr d L) ↦{fullShare} v) -∗ ((sW).view.loc (thr d L) ↦{fullShare} w)
          -∗ ((thr d L).loc cc0_scratch2 ↦{fullShare} step (rowOf v j) (rowOf w j) g) -∗ wp frame (wpE (defs₀ (F := F)) 𝒱₀ (thr d L) none) Set.univ (k ⟨⟩) Q))
      ⊢ wp frame (wpE (defs₀ (F := F)) 𝒱₀ (thr d L) none) Set.univ (scat L sI sW sO j h >>= k) Q := by
  have hr : ∀ x, (rowOf v j x).toNat < 4096 := fun _ => hv _
  unfold scat
  simp only [Prog.lift, bind_assoc, Prog.bind_op, Prog.bind_ret]
  iintro ⟨HI, HW, HO, Hk⟩
  iapply (wp_load 𝒱₀ (thr d L) none Set.univ (m := sI) (S := Finset.univ) (Finset.subset_univ _)) $$ HI; iintro HI
  rw [wp_assume_of _ _ _ _ (show k0_chk1 (addi lanes ((sI).view.readAt (Elt F) (rowRect j h).toLoadRect v)) from by rw [read_sI]; exact chk_of _ hr)]
  iapply (wp_load 𝒱₀ (thr d L) none Set.univ (m := sW) (S := Finset.univ) (Finset.subset_univ _)) $$ HW; iintro HW
  ihave HO' := (Entails.of_eq (pts_sO_whole (F := F) d L _).symm) $$ HO
  iapply (SparseCore.wp_vectorStoreIdx 𝒱₀ (thr d L) none Set.univ (base := sO)) $$ HO'; iintro HO
  ihave HO' := (Entails.of_eq ((pts_sO_whole (F := F) d L _).trans
    (congrArg (fun f : Buf (Elt F) ((thr d L).loc cc0_scratch2) => ((thr d L).loc cc0_scratch2 ↦{fullShare} f : sProp 𝕄))
      (scat_lands g (rowOf v j) _ (rowOf w j) _ hr (read_sI j h v) (read_sW j h w) _)))) $$ HO
  iapply Hk $$ HI HW HO'

/-- The last `n` scatters, from the accumulator after the first `j`. -/
theorem wp_scats {A : Type} (v : S1024.Idx → BitVec 32) (hv : ∀ x, (v x).toNat < 4096) (w : S1024.Idx → F .f32)
    (k : PUnit → TProg F L A) (Q : A → sProp 𝕄) : ∀ (n j : ℕ) (h : n + j = 64),
    iprop(((sI).view.loc (thr d L) ↦{fullShare} v) ∗ ((sW).view.loc (thr d L) ↦{fullShare} w) ∗ ((thr d L).loc cc0_scratch2 ↦{fullShare} accN v w j)
        ∗ (((sI).view.loc (thr d L) ↦{fullShare} v) -∗ ((sW).view.loc (thr d L) ↦{fullShare} w)
          -∗ ((thr d L).loc cc0_scratch2 ↦{fullShare} accN v w 64) -∗ wp frame (wpE (defs₀ (F := F)) 𝒱₀ (thr d L) none) Set.univ (k ⟨⟩) Q))
      ⊢ wp frame (wpE (defs₀ (F := F)) 𝒱₀ (thr d L) none) Set.univ (scats L sI sW sO n j h >>= k) Q
  | 0, j, h => by
    obtain rfl : j = 64 := by omega
    unfold scats
    simp only [pure_bind]
    iintro ⟨HI, HW, HO, Hk⟩
    iapply Hk $$ HI HW HO
  | n + 1, j, h => by
    unfold scats
    simp only [bind_assoc]
    iintro ⟨HI, HW, HO, Hk⟩
    iapply (wp_scat d L v hv w (accN v w j) j _) $$ [HI HW HO Hk]
    isplitl [HI]; · iexact HI
    isplitl [HW]; · iexact HW
    isplitl [HO]; · iexact HO
    iintro HI HW HO
    iapply (wp_scats v hv w k Q n (j + 1) _) $$ [HI HW HO Hk]
    isplitl [HI]; · iexact HI
    isplitl [HW]; · iexact HW
    isplitl [HO]; · iexact HO
    iexact Hk

end Cert.Proof.KernelIdeal

end
-- ==== Proof.Ideal.Zero.lean ====
/-
  The zero loop runs: whatever the accumulator held, it holds zeros after the 512 trips.
-/
module

public import proofs.«01_k».proof.Proof.Ideal.Scats

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first `n` words of the accumulator are zero. -/
def ZeroTo (n : ℕ) (g : Vec F S65536 .f32) : Prop := ∀ y, (y 0).val < n → g y = Scalar.ofBits .f32 0x00000000#32

/-- The sixteen words a store of the zero loop writes. -/
abbrev zRect (t : Fin k0_t1_loop.trips) (r : ℕ) (h : r < 8) : Rect S65536 :=
  Rect.unit (s := S65536) (k0_off2 t (BitVec.ofNat 32 r)) S16.size (k0_off2_inb t ⟨r, h⟩)

/-- Sixteen zeros stored after the first `128 t + 16 r` words. -/
theorem zero_more (t : Fin k0_t1_loop.trips) (r : ℕ) (h : r < 8) (g : Vec F S65536 .f32) (hg : ZeroTo (128 * t.val + 16 * r) g) :
    ZeroTo (128 * t.val + 16 * (r + 1)) (((sO).access (zRect t r h)).write (Elt F) g zeros Finset.univ) := by
  intro y hy
  have ho : k0_off2 t (BitVec.ofNat 32 r) = ![128 * t.val + 16 * r] := k0_off2_eq t ⟨r, h⟩
  by_cases hlt : (y 0).val < 128 * t.val + 16 * r
  · refine (View.write_of_not_mem (v := (sO).access (zRect t r h)) g zeros Finset.univ ?_).trans (hg y hlt)
    rw [View.setOn_univ, View.set_slice_whole, Rect.mem_set_unit]
    intro hm
    have h0 := hm 0
    rw [ho] at h0
    have h1 : 128 * t.val + 16 * r ≤ (y 0).val := h0.1
    omega
  · have hm : y ∈ ((sO).access (zRect t r h)).set := by
      rw [View.set_slice_whole, Rect.mem_set_unit]
      intro a
      obtain rfl : a = (0 : Fin 1) := Subsingleton.elim (α := Fin 1) _ _
      rw [ho]
      show 128 * t.val + 16 * r ≤ (y 0).val ∧ (y 0).val < 128 * t.val + 16 * r + 16
      omega
    obtain ⟨x, -, hx⟩ := Finset.mem_map.mp hm
    rw [← hx]
    exact View.write_emb_of_mem (v := (sO).access (zRect t r h)) g zeros (Finset.mem_univ x)

/-- There are 512 trips. -/
theorem trips_eq : k0_t1_loop.trips = 512 := by decide +kernel

variable (d : Dev nD) (L : grid0.Coords)

/-- The accumulator whole, as a store addresses it. -/
theorem pts_sO_access (t : Fin k0_t1_loop.trips) (r : ℕ) (h : r < 8) (f : Buf (Elt F) ((thr d L).loc cc0_scratch2)) :
    (((sO).access (zRect t r h)).loc (thr d L) ↦{fullShare} f : sProp 𝕄) = (thr d L).loc cc0_scratch2 ↦{fullShare} f := rfl

/-- One store of the zero loop. -/
theorem wp_zeroSt {A : Type} (t : Fin k0_t1_loop.trips) (r : ℕ) (h : r < 8) (g : Vec F S65536 .f32) (hg : ZeroTo (128 * t.val + 16 * r) g)
    (k : PUnit → TProg F L A) (Q : A → sProp 𝕄) :
    iprop(((thr d L).loc cc0_scratch2 ↦{fullShare} g)
        ∗ (∀ g' : Vec F S65536 .f32, ⌜ZeroTo (128 * t.val + 16 * (r + 1)) g'⌝ -∗ ((thr d L).loc cc0_scratch2 ↦{fullShare} g')
          -∗ wp frame (wpE (defs₀ (F := F)) 𝒱₀ (thr d L) none) Set.univ (k ⟨⟩) Q))
      ⊢ wp frame (wpE (defs₀ (F := F)) 𝒱₀ (thr d L) none) Set.univ (zeroSt L sO t r h >>= k) Q := by
  unfold zeroSt
  simp only [Prog.lift, bind_assoc, Prog.bind_op, Prog.bind_ret]
  iintro ⟨HO, Hk⟩
  ihave HO := (Entails.of_eq (show ((thr d L).loc cc0_scratch2 ↦{fullShare} g : sProp 𝕄) = ((sO).view.loc (thr d L) ↦{fullShare} g) from rfl)) $$ HO
  iapply (wp_load 𝒱₀ (thr d L) none Set.univ (m := sO) (S := Finset.univ) (Finset.subset_univ _)) $$ HO; iintro HO
  ihave HO := (Entails.of_eq (pts_sO_access (F := F) d L t r h g).symm) $$ HO
  iapply (wp_store 𝒱₀ (thr d L) none Set.univ (m := sO) (r := zRect t r h) (Mk := Finset.univ) (S := Finset.univ) (Finset.subset_univ _)) $$ HO; iintro HO
  ihave HO := (Entails.of_eq (pts_sO_access (F := F) d L t r h _)) $$ HO
  iapply Hk $$ %_ [] HO
  ipureintro
  exact zero_more t r h g hg

/-- The last `n` stores of a trip. -/
theorem wp_zeroSts {A : Type} (t : Fin k0_t1_loop.trips) (k : PUnit → TProg F L A) (Q : A → sProp 𝕄) :
    ∀ (n r : ℕ) (h : n + r = 8) (g : Vec F S65536 .f32), ZeroTo (128 * t.val + 16 * r) g →
    iprop(((thr d L).loc cc0_scratch2 ↦{fullShare} g)
        ∗ (∀ g' : Vec F S65536 .f32, ⌜ZeroTo (128 * (t.val + 1)) g'⌝ -∗ ((thr d L).loc cc0_scratch2 ↦{fullShare} g')
          -∗ wp frame (wpE (defs₀ (F := F)) 𝒱₀ (thr d L) none) Set.univ (k ⟨⟩) Q))
      ⊢ wp frame (wpE (defs₀ (F := F)) 𝒱₀ (thr d L) none) Set.univ (zeroSts L sO t n r h >>= k) Q
  | 0, r, h, g, hg => by
    obtain rfl : r = 8 := by omega
    unfold zeroSts
    simp only [pure_bind]
    iintro ⟨HO, Hk⟩
    iapply Hk $$ %_ [] HO
    ipureintro
    rw [show 128 * (t.val + 1) = 128 * t.val + 16 * 8 by omega]; exact hg
  | n + 1, r, h, g, hg => by
    unfold zeroSts
    simp only [bind_assoc]
    iintro ⟨HO, Hk⟩
    iapply (wp_zeroSt d L t r _ g hg) $$ [HO Hk]
    isplitl [HO]; · iexact HO
    iintro %g' %hg' HO
    iapply (wp_zeroSts t k Q n (r + 1) _ g' hg') $$ [HO Hk]
    isplitl [HO]; · iexact HO
    iexact Hk

/-- One trip. -/
theorem wp_trip (t : Fin k0_t1_loop.trips) (g : Vec F S65536 .f32) (hg : ZeroTo (128 * t.val) g) :
    ((thr d L).loc cc0_scratch2 ↦{fullShare} g : sProp 𝕄)
      ⊢ wp frame (wpE (defs₀ (F := F)) 𝒱₀ (thr d L) none) Set.univ (zeroSts L sO t 8 0 rfl)
          (fun _ => iprop(∃ g' : Vec F S65536 .f32, ⌜ZeroTo (128 * (t.val + 1)) g'⌝ ∗ ((thr d L).loc cc0_scratch2 ↦{fullShare} g'))) := by
  rw [show zeroSts (F := F) L sO t 8 0 rfl = (zeroSts L sO t 8 0 rfl >>= fun u => pure u) from (bind_pure _).symm]
  iintro HO
  iapply (wp_zeroSts d L t (fun u => pure u) _ 8 0 rfl g hg) $$ [HO]
  isplitl [HO]; · iexact HO
  iintro %g' %hg' HO
  sl_step
  iexists g'; isplitr
  · ipureintro; exact hg'
  · iexact HO

/-- The zero loop. -/
theorem wp_zeroLoop {A : Type} (g : Vec F S65536 .f32) (k : PUnit → TProg F L A) (Q : A → sProp 𝕄) :
    iprop(((thr d L).loc cc0_scratch2 ↦{fullShare} g)
        ∗ (∀ g' : Vec F S65536 .f32, ⌜ZeroTo 65536 g'⌝ -∗ ((thr d L).loc cc0_scratch2 ↦{fullShare} g')
          -∗ wp frame (wpE (defs₀ (F := F)) 𝒱₀ (thr d L) none) Set.univ (k ⟨⟩) Q))
      ⊢ wp frame (wpE (defs₀ (F := F)) 𝒱₀ (thr d L) none) Set.univ (zeroLoop L sO >>= k) Q := by
  unfold zeroLoop
  iintro ⟨HO, Hk⟩
  sl_for (fun (n : ℕ) (_ : PUnit) => (iprop(∃ g' : Vec F S65536 .f32, ⌜ZeroTo (128 * n) g'⌝ ∗ ((thr d L).loc cc0_scratch2 ↦{fullShare} g')) : sProp 𝕄)) $$ [HO]
  case region =>
    intro t _
    iintro ⟨%g', %hg', HO⟩
    iapply (wp_trip d L t g' hg') $$ HO
  · iexists g; isplitr
    · ipureintro; intro y hy; exact absurd hy (by omega)
    · iexact HO
  iintro %_ ⟨%g', %hg', HO⟩
  iapply Hk $$ %g' [] HO
  ipureintro
  intro y hy
  exact hg' y (show (y 0).val < 128 * k0_t1_loop.trips by rw [trips_eq]; omega)

end Cert.Proof.KernelIdeal

end
-- ==== Proof.Ideal.Round.lean ====
/-
  One round of a tile: a block of column numbers and a block of weights come in, the accumulator goes out as a block of the table.
-/
module

public import proofs.«01_k».proof.Proof.Ideal.Zero

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A block of column numbers, a block of weights, a block of the table, each named by where it starts. -/
abbrev iSl (o : Fin 1 → ℕ) (ho : ∀ a, o a + S1024.size a ≤ S65536.size a) : Memref sig .scVector .hbm S1024 .i32 :=
  (iV).slice (Rect.unit (s := S65536) o S1024.size ho) (fun _ => rfl)
abbrev wSl (o : Fin 1 → ℕ) (ho : ∀ a, o a + S1024.size a ≤ S65536.size a) : Memref sig .scVector .hbm S1024 .f32 :=
  (wV).slice (Rect.unit (s := S65536) o S1024.size ho) (fun _ => rfl)
abbrev oSl (o : Fin 1 → ℕ) (ho : ∀ a, o a + S65536.size a ≤ S4194304.size a) : Memref sig .scVector .hbm S65536 .f32 :=
  (oV).slice (Rect.unit (s := S4194304) o S65536.size ho) (fun _ => rfl)

variable (d : Dev nD) (L : grid0.Coords)

/-- The two copies in, each waited for. -/
theorem wp_copyIn {A : Type} (o : Fin 1 → ℕ) (ho : ∀ a, o a + S1024.size a ≤ S65536.size a) (sa sb : DmaSems sig S_)
    (O : CellTallies nD τ sig (HIx 1)) (W : Waits sig (HIx 1))
    (fi : Buf (Elt F) (iLoc d)) (fw : Buf (Elt F) (wLoc d)) (gi : Buf (Elt F) ((thr d L).loc cc0_scratch0)) (gw : Buf (Elt F) ((thr d L).loc cc0_scratch1))
    (k : PUnit → TProg F L A) (Q : A → sProp 𝕄) :
    iprop(Transfers.MayWaits (thr d L) (default : HIx 1) O
        ∗ ((iSl o ho).view.loc (thr d L) ↦[(iSl o ho).view.set]{fullShare} fi) ∗ ((wSl o ho).view.loc (thr d L) ↦[(wSl o ho).view.set]{fullShare} fw)
        ∗ ((sI).view.loc (thr d L) ↦{fullShare} gi) ∗ ((sW).view.loc (thr d L) ↦{fullShare} gw)
        ∗ semVal (thr d L, SemLoc.dma sa.sem) 0 ∗ semVal (thr d L, SemLoc.dma sb.sem) 0 ∗ owes (thr d L) O W
        ∗ (∀ W', ⌜∀ p ∈ W', p ∈ W ∨ p.2 = none⌝ -∗
            ((iSl o ho).view.loc (thr d L) ↦[(iSl o ho).view.set]{fullShare} fi) -∗ ((wSl o ho).view.loc (thr d L) ↦[(wSl o ho).view.set]{fullShare} fw)
            -∗ ((sI).view.loc (thr d L) ↦{fullShare} (iSl o ho).view.read (Elt F) fi) -∗ ((sW).view.loc (thr d L) ↦{fullShare} (wSl o ho).view.read (Elt F) fw)
            -∗ semVal (thr d L, SemLoc.dma sa.sem) 0 -∗ semVal (thr d L, SemLoc.dma sb.sem) 0 -∗ owes (thr d L) O W'
            -∗ wp frame (wpE (defs₀ (F := F)) 𝒱₀ (thr d L) none) Set.univ (k ⟨⟩) Q))
      ⊢ wp frame (wpE (defs₀ (F := F)) 𝒱₀ (thr d L) none) Set.univ
          (copyIn L iV wV sI (Memref.isWhole_whole _) sW (Memref.isWhole_whole _) o ho sa sb >>= k) Q := by
  unfold copyIn
  iintro ⟨#Hmw, Hi, Hw, HI, HW, Ha, Hb, HO, Hk⟩
  sl_exec
  ihave HI' := (Entails.of_eq (show ((sI).view.loc (thr d L) ↦{fullShare} (sI).view.write (Elt F) gi (wp_copyIn.sl.dma0 d o ho fi) Finset.univ : sProp 𝕄)
      = ((sI).view.loc (thr d L) ↦{fullShare} (iSl o ho).view.read (Elt F) fi) from
    congrArg (fun f : Buf (Elt F) ((thr d L).loc cc0_scratch0) => ((sI).view.loc (thr d L) ↦{fullShare} f : sProp 𝕄))
      (View.write_whole_univ (Val := Elt F) (cc0_scratch0 : Ref sig .scVector) gi ((iSl o ho).view.read (Elt F) fi)))) $$ HI
  ihave HW' := (Entails.of_eq (show ((sW).view.loc (thr d L) ↦{fullShare} (sW).view.write (Elt F) gw (wp_copyIn.sl.dma0_1 d o ho fw) Finset.univ : sProp 𝕄)
      = ((sW).view.loc (thr d L) ↦{fullShare} (wSl o ho).view.read (Elt F) fw) from
    congrArg (fun f : Buf (Elt F) ((thr d L).loc cc0_scratch1) => ((sW).view.loc (thr d L) ↦{fullShare} f : sProp 𝕄))
      (View.write_whole_univ (Val := Elt F) (cc0_scratch1 : Ref sig .scVector) gw ((wSl o ho).view.read (Elt F) fw)))) $$ HW
  iapply Hk $$ %_ [] Hi Hw HI' HW' Ha Hb HO
  ipureintro
  intro p hp
  rcases Finset.mem_insert.mp hp with hp | hp; · exact .inr (hp ▸ rfl)
  rcases Finset.mem_insert.mp hp with hp | hp; · exact .inr (hp ▸ rfl)
  exact .inl hp

/-- The copy out, waited for. -/
theorem wp_copyOut {A : Type} (o : Fin 1 → ℕ) (ho : ∀ a, o a + S65536.size a ≤ S4194304.size a) (sc : DmaSems sig S_)
    (O : CellTallies nD τ sig (HIx 1)) (W : Waits sig (HIx 1)) (fo : Buf (Elt F) (oLoc d)) (g : Vec F S65536 .f32)
    (k : PUnit → TProg F L A) (Q : A → sProp 𝕄) :
    iprop(Transfers.MayWaits (thr d L) (default : HIx 1) O
        ∗ ((oSl o ho).view.loc (thr d L) ↦[(oSl o ho).view.set]{fullShare} fo) ∗ ((sO).view.loc (thr d L) ↦{fullShare} g)
        ∗ semVal (thr d L, SemLoc.dma sc.sem) 0 ∗ owes (thr d L) O W
        ∗ (∀ W', ⌜∀ p ∈ W', p ∈ W ∨ p.2 = none⌝ -∗ ∀ f' : Buf (Elt F) (oLoc d), ⌜(oSl o ho).view.read (Elt F) f' = g⌝ -∗
            ((oSl o ho).view.loc (thr d L) ↦[(oSl o ho).view.set]{fullShare} f')
            -∗ ((sO).view.loc (thr d L) ↦{fullShare} g)
            -∗ semVal (thr d L, SemLoc.dma sc.sem) 0 -∗ owes (thr d L) O W'
            -∗ wp frame (wpE (defs₀ (F := F)) 𝒱₀ (thr d L) none) Set.univ (k ⟨⟩) Q))
      ⊢ wp frame (wpE (defs₀ (F := F)) 𝒱₀ (thr d L) none) Set.univ
          (copyOut L oV sO (Memref.isWhole_whole _) o ho sc >>= k) Q := by
  unfold copyOut
  iintro ⟨#Hmw, Ho, HA, Hc, HO, Hk⟩
  sl_exec
  iapply Hk $$ %_ [] %_ [] Ho HA Hc HO
  · ipureintro
    intro p hp
    rcases Finset.mem_insert.mp hp with hp | hp; · exact .inr (hp ▸ rfl)
    exact .inl hp
  · ipureintro
    funext x
    have h := View.read_writes_cons_emb (Val := Elt F) (v := (oSl o ho).view) fo (Rect.whole S65536) g [] x
    rw [Rect.emb_whole_apply] at h
    exact h

/-- Zeros are the accumulator before any scatter. -/
theorem accN_zero (v : S1024.Idx → BitVec 32) (w : S1024.Idx → F .f32) (g : Vec F S65536 .f32) (hg : ZeroTo 65536 g) : g = accN v w 0 :=
  funext fun y => hg y (y 0).isLt

/-- A round: what leaves is the accumulator after the block's sixty-four scatters. -/
theorem wp_round {A : Type} (o : Fin 1 → ℕ) (ho : ∀ a, o a + S1024.size a ≤ S65536.size a) (o' : Fin 1 → ℕ) (ho' : ∀ a, o' a + S65536.size a ≤ S4194304.size a)
    (sa sb sc : DmaSems sig S_) (O : CellTallies nD τ sig (HIx 1)) (W : Waits sig (HIx 1))
    (fi : Buf (Elt F) (iLoc d)) (fw : Buf (Elt F) (wLoc d)) (fo : Buf (Elt F) (oLoc d)) (hv : ∀ x, ((iSl o ho).view.read (Elt F) fi x).toNat < 4096)
    (gi : Buf (Elt F) ((thr d L).loc cc0_scratch0)) (gw : Buf (Elt F) ((thr d L).loc cc0_scratch1)) (g : Buf (Elt F) ((thr d L).loc cc0_scratch2))
    (k : PUnit → TProg F L A) (Q : A → sProp 𝕄) :
    iprop(Transfers.MayWaits (thr d L) (default : HIx 1) O
        ∗ ((iSl o ho).view.loc (thr d L) ↦[(iSl o ho).view.set]{fullShare} fi) ∗ ((wSl o ho).view.loc (thr d L) ↦[(wSl o ho).view.set]{fullShare} fw)
        ∗ ((oSl o' ho').view.loc (thr d L) ↦[(oSl o' ho').view.set]{fullShare} fo)
        ∗ ((sI).view.loc (thr d L) ↦{fullShare} gi) ∗ ((sW).view.loc (thr d L) ↦{fullShare} gw) ∗ ((thr d L).loc cc0_scratch2 ↦{fullShare} g)
        ∗ semVal (thr d L, SemLoc.dma sa.sem) 0 ∗ semVal (thr d L, SemLoc.dma sb.sem) 0 ∗ semVal (thr d L, SemLoc.dma sc.sem) 0 ∗ owes (thr d L) O W
        ∗ (∀ W', ⌜∀ p ∈ W', p ∈ W ∨ p.2 = none⌝ -∗
            ∀ f' : Buf (Elt F) (oLoc d), ⌜(oSl o' ho').view.read (Elt F) f' = accN ((iSl o ho).view.read (Elt F) fi) ((wSl o ho).view.read (Elt F) fw) 64⌝ -∗
            ∀ (gi' : Buf (Elt F) ((thr d L).loc cc0_scratch0)) (gw' : Buf (Elt F) ((thr d L).loc cc0_scratch1)) (g' : Buf (Elt F) ((thr d L).loc cc0_scratch2)),
            ((iSl o ho).view.loc (thr d L) ↦[(iSl o ho).view.set]{fullShare} fi) -∗ ((wSl o ho).view.loc (thr d L) ↦[(wSl o ho).view.set]{fullShare} fw)
            -∗ ((oSl o' ho').view.loc (thr d L) ↦[(oSl o' ho').view.set]{fullShare} f')
            -∗ ((sI).view.loc (thr d L) ↦{fullShare} gi') -∗ ((sW).view.loc (thr d L) ↦{fullShare} gw') -∗ ((thr d L).loc cc0_scratch2 ↦{fullShare} g')
            -∗ semVal (thr d L, SemLoc.dma sa.sem) 0 -∗ semVal (thr d L, SemLoc.dma sb.sem) 0 -∗ semVal (thr d L, SemLoc.dma sc.sem) 0 -∗ owes (thr d L) O W'
            -∗ wp frame (wpE (defs₀ (F := F)) 𝒱₀ (thr d L) none) Set.univ (k ⟨⟩) Q))
      ⊢ wp frame (wpE (defs₀ (F := F)) 𝒱₀ (thr d L) none) Set.univ
          (round L iV wV oV sI (Memref.isWhole_whole _) sW (Memref.isWhole_whole _) sO (Memref.isWhole_whole _) o ho o' ho' sa sb sc >>= k) Q := by
  unfold round
  simp only [bind_assoc]
  iintro ⟨#Hmw, Hi, Hw, Ho, HI, HW, HA, Ha, Hb, Hc, HO, Hk⟩
  iapply (wp_copyIn d L o ho sa sb O W fi fw gi gw) $$ [Hi Hw Ho HI HW HA Ha Hb Hc HO Hk]
  isplitr; · iexact Hmw
  isplitl [Hi]; · iexact Hi
  isplitl [Hw]; · iexact Hw
  isplitl [HI]; · iexact HI
  isplitl [HW]; · iexact HW
  isplitl [Ha]; · iexact Ha
  isplitl [Hb]; · iexact Hb
  isplitl [HO]; · iexact HO
  iintro %W1 %hW1 Hi Hw HI HW Ha Hb HO
  iapply (wp_zeroLoop d L g) $$ [Hi Hw Ho HI HW HA Ha Hb Hc HO Hk]
  isplitl [HA]; · iexact HA
  iintro %g1 %hg1 HA
  obtain rfl := accN_zero ((iSl o ho).view.read (Elt F) fi) ((wSl o ho).view.read (Elt F) fw) g1 hg1
  iapply (wp_scats d L _ hv _ _ _ 64 0 rfl) $$ [Hi Hw Ho HI HW HA Ha Hb Hc HO Hk]
  isplitl [HI]; · iexact HI
  isplitl [HW]; · iexact HW
  isplitl [HA]; · iexact HA
  iintro HI HW HA
  iapply (wp_copyOut d L o' ho' sc O W1 fo _) $$ [Hi Hw Ho HI HW HA Ha Hb Hc HO Hk]
  isplitr; · iexact Hmw
  isplitl [Ho]; · iexact Ho
  isplitl [HA]; · iexact HA
  isplitl [Hc]; · iexact Hc
  isplitl [HO]; · iexact HO
  iintro %W2 %hW2 %f' %hf' Ho HA Hc HO
  iapply Hk $$ %W2 [] %f' [] %_ %_ %_ Hi Hw Ho HI HW HA Ha Hb Hc HO
  · ipureintro
    intro p hp
    rcases hW2 p hp with h | h
    · exact hW1 p h
    · exact .inr h
  · ipureintro; exact hf'

end Cert.Proof.KernelIdeal

end
-- ==== Proof.Ideal.Table.lean ====
/-
  The accumulated table the tiles leave in shared memory, block by block, and how the shared arrays split into the tiles' blocks.
-/
module

public import proofs.«01_k».proof.Proof.Ideal.Round

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Block `b` of a shared array: its words `1024 b` to `1024 b + 1023`. -/
def blkOf {α : Type} (f : S65536.Idx → α) (b : ℕ) : S1024.Idx → α :=
  fun x => f (Shape.ofLane (d := ![65536]) (⟨(1024 * b + (x 0).val) % 65536, Nat.mod_lt _ (by decide)⟩ : Fin 65536))

/-- The table: its block `b` is the accumulator after the scatters of block `b`. -/
def WT (fi : S65536.Idx → BitVec 32) (fw : S65536.Idx → F .f32) : Vec F S4194304 .f32 :=
  fun y => accN (blkOf fi ((y 0).val / 65536)) (blkOf fw ((y 0).val / 65536)) 64
    (Shape.ofLane (d := ![65536]) (⟨(y 0).val % 65536, Nat.mod_lt _ (by decide)⟩ : Fin 65536))

theorem iSl_emb (o : Fin 1 → ℕ) (ho : ∀ a, o a + S1024.size a ≤ S65536.size a) (x : S1024.Idx) (b : ℕ) (hb : o = ![1024 * b]) :
    (iSl o ho).view.emb x = Shape.ofLane (d := ![65536]) (⟨(1024 * b + (x 0).val) % 65536, Nat.mod_lt _ (by decide)⟩ : Fin 65536) := by
  have hx : (x 0).val < 1024 := (x 0).isLt
  have h0 : 1024 * b + 1024 ≤ 65536 := by have := ho 0; rw [hb] at this; exact this
  funext a
  obtain rfl : a = (0 : Fin 1) := Subsingleton.elim (α := Fin 1) _ _
  apply Fin.ext
  show o 0 + 1 * (x 0).val = (1024 * b + (x 0).val) % 65536
  rw [hb]
  show 1024 * b + 1 * (x 0).val = _
  omega

/-- What a round reads of the column numbers is its block. -/
theorem read_iSl (o : Fin 1 → ℕ) (ho : ∀ a, o a + S1024.size a ≤ S65536.size a) (b : ℕ) (hb : o = ![1024 * b]) (f : S65536.Idx → BitVec 32) :
    (iSl o ho).view.read (Elt F) f = blkOf f b := by
  funext x
  rw [View.read_apply]
  exact (cast_eq _ _).trans (congrArg f (iSl_emb o ho x b hb))
/-- What a round reads of the weights is its block. -/
theorem read_wSl (o : Fin 1 → ℕ) (ho : ∀ a, o a + S1024.size a ≤ S65536.size a) (b : ℕ) (hb : o = ![1024 * b]) (f : S65536.Idx → F .f32) :
    (wSl o ho).view.read (Elt F) f = blkOf f b := by
  funext x
  rw [View.read_apply]
  exact (cast_eq _ _).trans (congrArg f (iSl_emb o ho x b hb))

theorem oSl_emb (o : Fin 1 → ℕ) (ho : ∀ a, o a + S65536.size a ≤ S4194304.size a) (x : S65536.Idx) (b : ℕ) (hb : o = ![65536 * b]) :
    ((oSl o ho).view.emb x 0).val = 65536 * b + (x 0).val := by
  show o 0 + 1 * (x 0).val = _
  rw [hb]
  show 65536 * b + 1 * (x 0).val = _
  omega

variable (d : Dev nD) (L : grid0.Coords)

/-- A block of the table written with its accumulator holds the table. -/
theorem lands (o : Fin 1 → ℕ) (ho : ∀ a, o a + S1024.size a ≤ S65536.size a) (o' : Fin 1 → ℕ) (ho' : ∀ a, o' a + S65536.size a ≤ S4194304.size a)
    (b : ℕ) (hb : o = ![1024 * b]) (hb' : o' = ![65536 * b]) (fi : S65536.Idx → BitVec 32) (fw : S65536.Idx → F .f32) (f' : Buf (Elt F) (oLoc d))
    (h : (oSl o' ho').view.read (Elt F) f' = accN ((iSl o ho).view.read (Elt F) fi) ((wSl o ho).view.read (Elt F) fw) 64) :
    (oLoc d ↦[(oSl o' ho').view.set]{fullShare} f' : sProp 𝕄) = oLoc d ↦[(oSl o' ho').view.set]{fullShare} WT fi fw := by
  refine pointsTo_congr fun y hy => ?_
  obtain ⟨x, -, rfl⟩ := Finset.mem_map.mp hy
  have hx : (x 0).val < 65536 := (x 0).isLt
  have e := oSl_emb o' ho' x b hb'
  have h' := congrFun h x
  rw [View.read_apply, read_iSl o ho b hb, read_wSl o ho b hb] at h'
  refine ((cast_eq _ _).symm.trans h').trans ?_
  show _ = accN (blkOf fi (((oSl o' ho').view.emb x 0).val / 65536)) (blkOf fw (((oSl o' ho').view.emb x 0).val / 65536)) 64 _
  have e1 : ((oSl o' ho').view.emb x 0).val / 65536 = b := by omega
  rw [e1]
  congr 1
  funext a
  obtain rfl : a = (0 : Fin 1) := Subsingleton.elim (α := Fin 1) _ _
  apply Fin.ext
  show (x 0).val = ((oSl o' ho').view.emb x 0).val % 65536
  omega

/-! ## The split into blocks -/

/-- An array whose every word belongs to one of the blocks numbered `4 i + 2 c + r` is those blocks, two to a tile. -/
theorem split_blocks {ℓ : Loc nD τ sig} (Q : Fin 2 → Fin 16 → Fin 2 → Finset (Idx ℓ)) (blk : Idx ℓ → ℕ) (hlt : ∀ y, blk y < 64)
    (hQ : ∀ c i r y, y ∈ Q c i r ↔ blk y = 4 * i.val + 2 * c.val + r.val) (f : Buf (Elt F) ℓ) :
    (ℓ ↦{fullShare} f : sProp 𝕄) = bigSep Finset.univ fun c : Fin 2 => bigSep Finset.univ fun i : Fin 16 =>
      iprop((ℓ ↦[Q c i 0]{fullShare} f) ∗ (ℓ ↦[Q c i 1]{fullShare} f)) := by
  have hd : ∀ p ∈ (Finset.univ : Finset (Fin 2 × Fin 16 × Fin 2)), ∀ p' ∈ (Finset.univ : Finset (Fin 2 × Fin 16 × Fin 2)), p ≠ p' →
      Disjoint (Q p.1 p.2.1 p.2.2) (Q p'.1 p'.2.1 p'.2.2) := by
    intro p _ p' _ hne
    refine Finset.disjoint_left.mpr fun y hy hy' => hne ?_
    have h1 := (hQ _ _ _ _).mp hy
    have h2 := (hQ _ _ _ _).mp hy'
    have := p.1.isLt; have := p'.1.isLt; have := p.2.2.isLt; have := p'.2.2.isLt
    refine Prod.ext (Fin.ext ?_) (Prod.ext (Fin.ext ?_) (Fin.ext ?_)) <;> omega
  have hc : (Finset.univ : Finset (Fin 2 × Fin 16 × Fin 2)).biUnion (fun p => Q p.1 p.2.1 p.2.2) = Finset.univ := by
    ext y
    simp only [Finset.mem_biUnion, Finset.mem_univ, true_and, iff_true]
    have := hlt y
    refine ⟨(⟨blk y / 2 % 2, by omega⟩, ⟨blk y / 4, by omega⟩, ⟨blk y % 2, by omega⟩), (hQ _ _ _ _).mpr ?_⟩
    show blk y = 4 * (blk y / 4) + 2 * (blk y / 2 % 2) + blk y % 2
    omega
  have e := pointsTo_biUnion (Ix := HIx 1) (Val := Elt F) (Name := ℕ) (U := UU) (Lvl := ℕ) (q := fullShare) (f := f) Finset.univ (ℓ := ℓ) (fun p : Fin 2 × Fin 16 × Fin 2 => Q p.1 p.2.1 p.2.2) hd
  rw [hc] at e
  rw [e, BI.bigSep_univ_prod]
  refine bigSep_congr fun c _ => ?_
  rw [BI.bigSep_univ_prod]
  refine bigSep_congr fun i _ => ?_
  exact BI.bigSep_fin_two _

theorem mem_iSl (o : Fin 1 → ℕ) (ho : ∀ a, o a + S1024.size a ≤ S65536.size a) (b : ℕ) (hb : o = ![1024 * b]) (y : S65536.Idx) :
    y ∈ (iSl o ho).view.set ↔ (y 0).val / 1024 = b := by
  show y ∈ ((View.whole (main_v3_scv : Ref sig .scVector)).slice (Rect.unit (s := S65536) o S1024.size ho)).set ↔ _
  rw [View.set_slice_whole, Rect.mem_set_unit]
  have h : (∀ a, o a ≤ (y a).val ∧ (y a).val < o a + S1024.size a) ↔ (1024 * b ≤ (y 0).val ∧ (y 0).val < 1024 * b + 1024) := by
    subst hb
    exact ⟨fun h => h 0, fun h a => by obtain rfl : a = (0 : Fin 1) := Subsingleton.elim (α := Fin 1) _ _; exact h⟩
  refine h.trans ?_
  omega
theorem mem_oSl (o : Fin 1 → ℕ) (ho : ∀ a, o a + S65536.size a ≤ S4194304.size a) (b : ℕ) (hb : o = ![65536 * b]) (y : S4194304.Idx) :
    y ∈ (oSl o ho).view.set ↔ (y 0).val / 65536 = b := by
  show y ∈ ((View.whole (main_v8_scv : Ref sig .scVector)).slice (Rect.unit (s := S4194304) o S65536.size ho)).set ↔ _
  rw [View.set_slice_whole, Rect.mem_set_unit]
  have h : (∀ a, o a ≤ (y a).val ∧ (y a).val < o a + S65536.size a) ↔ (65536 * b ≤ (y 0).val ∧ (y 0).val < 65536 * b + 65536) := by
    subst hb
    exact ⟨fun h => h 0, fun h a => by obtain rfl : a = (0 : Fin 1) := Subsingleton.elim (α := Fin 1) _ _; exact h⟩
  refine h.trans ?_
  omega

end Cert.Proof.KernelIdeal

end
-- ==== Proof.Ideal.Tile.lean ====
/-
  A tile's body, both its rounds, and what the launch's handshakes carry to a tile and back.
-/
module

public import proofs.«01_k».proof.Proof.Ideal.Table

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay ownCells ownRefs ownBufs ownSems0 mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's blocks -/

/-- The blocks of column numbers or weights of the tile at `L`, by round, -/
def inSet (L : grid0.Coords) : Fin 2 → Finset S65536.Idx
  | 0 => (iSl (k0_off1 L) (k0_off1_inb L)).view.set
  | 1 => (iSl (k0_off4 L) (k0_off4_inb L)).view.set
/-- and its blocks of the table. -/
def outSet (L : grid0.Coords) : Fin 2 → Finset S4194304.Idx
  | 0 => (oSl (k0_off3 L) (k0_off3_inb L)).view.set
  | 1 => (oSl (k0_off6 L) (k0_off6_inb L)).view.set

theorem off1_blk (L : grid0.Coords) : k0_off1 L = ![1024 * (4 * (L 1).val + 2 * (L 0).val)] := by
  rw [k0_off1_eq]; congr 1; omega
theorem off4_blk (L : grid0.Coords) : k0_off4 L = ![1024 * (4 * (L 1).val + 2 * (L 0).val + 1)] := by
  rw [k0_off4_eq]; congr 1; omega
theorem off3_blk (L : grid0.Coords) : k0_off3 L = ![65536 * (4 * (L 1).val + 2 * (L 0).val)] := by
  rw [k0_off3_eq]; congr 1; omega
theorem off6_blk (L : grid0.Coords) : k0_off6 L = ![65536 * (4 * (L 1).val + 2 * (L 0).val + 1)] := by
  rw [k0_off6_eq]; congr 1; omega

section Pieces

variable (fI : (d : Dev nD) → Buf (Elt F) (iLoc d)) (fW : (d : Dev nD) → Buf (Elt F) (wLoc d))

/-- What a tile is handed: its blocks of column numbers and weights, and its blocks of the table at whatever they hold; -/
def tileIn (d : Dev nD) (L : grid0.Coords) : sProp 𝕄 :=
  iprop(((iLoc d ↦[inSet L 0]{fullShare} fI d) ∗ (iLoc d ↦[inSet L 1]{fullShare} fI d))
    ∗ ((wLoc d ↦[inSet L 0]{fullShare} fW d) ∗ (wLoc d ↦[inSet L 1]{fullShare} fW d))
    ∗ ((∃ f : Buf (Elt F) (oLoc d), oLoc d ↦[outSet L 0]{fullShare} f) ∗ (∃ f : Buf (Elt F) (oLoc d), oLoc d ↦[outSet L 1]{fullShare} f)))
/-- what it brings back: the same, its blocks of the table at the table. -/
def tileOut (d : Dev nD) (L : grid0.Coords) : sProp 𝕄 :=
  iprop(((iLoc d ↦[inSet L 0]{fullShare} fI d) ∗ (iLoc d ↦[inSet L 1]{fullShare} fI d))
    ∗ ((wLoc d ↦[inSet L 0]{fullShare} fW d) ∗ (wLoc d ↦[inSet L 1]{fullShare} fW d))
    ∗ ((oLoc d ↦[outSet L 0]{fullShare} WT (fI d) (fW d)) ∗ (oLoc d ↦[outSet L 1]{fullShare} WT (fI d) (fW d))))

instance tileIn_storable (d : Dev nD) (L : grid0.Coords) : BI.Storable (upEmb : UEmb _ 𝕄) (tileIn fI fW d L) := by
  unfold tileIn; infer_instance
instance tileOut_storable (d : Dev nD) (L : grid0.Coords) : BI.Storable (upEmb : UEmb _ 𝕄) (tileOut fI fW d L) := by
  unfold tileOut; infer_instance

end Pieces

/-! ## A tile's own buffers and semaphores -/

section Own

variable (d : Dev nD) (L : grid0.Coords)

/-- The six semaphores a tile's copies complete on. -/
def dmaOf : Fin 6 → SemLoc sig :=
  ![.dma cc0_scoped0.sem, .dma cc0_scoped1.sem, .dma cc0_scoped2.sem, .dma cc0_scoped3.sem, .dma cc0_scoped4.sem, .dma cc0_scoped5.sem]

theorem dmaOf_inj : Function.Injective dmaOf := by decide

theorem dmaOf_scoped (k : Fin 6) : (dmaOf k).isScoped .scVector = true := by revert k; decide

/-- They are among the tile's semaphores. -/
theorem ownSems0_V : ∃ R : sProp 𝕄, (ownSems0 (thr d L) : sProp 𝕄)
    = iprop((semVal (thr d L, SemLoc.dma cc0_scoped0.sem) 0 ∗ semVal (thr d L, SemLoc.dma cc0_scoped1.sem) 0 ∗ semVal (thr d L, SemLoc.dma cc0_scoped2.sem) 0
        ∗ semVal (thr d L, SemLoc.dma cc0_scoped3.sem) 0 ∗ semVal (thr d L, SemLoc.dma cc0_scoped4.sem) 0 ∗ semVal (thr d L, SemLoc.dma cc0_scoped5.sem) 0) ∗ R) := by
  classical
  have hinj : Function.Injective fun k : Fin 6 => ((thr d L, dmaOf k) : GSem nD τ sig) := fun a b h => dmaOf_inj (Prod.mk.inj h).2
  have hsub : (Finset.univ : Finset (Fin 6)).image (fun k => ((thr d L, dmaOf k) : GSem nD τ sig)) ⊆ ownCells (thr d L) := by
    intro g hg
    obtain ⟨k, -, rfl⟩ := Finset.mem_image.mp hg
    exact mem_ownCells.mpr ⟨rfl, dmaOf_scoped k⟩
  refine ⟨bigSep (ownCells (thr d L) \ (Finset.univ : Finset (Fin 6)).image (fun k => ((thr d L, dmaOf k) : GSem nD τ sig))) fun g => semVal g 0, ?_⟩
  unfold SparseCore.Cfg.ownSems0
  rw [SparseCore.bigSep_sdiff_split' hsub, SparseCore.bigSep_image_of_injOn hinj.injOn]
  congr 1
  exact BI.bigSep_univ_eq_bigSepL [0, 1, 2, 3, 4, 5] (by decide) (by decide) _

/-- A tile's scratch buffers are among its own. -/
theorem ownBufs_V : ∃ R : sProp 𝕄, (ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f) ∗ R) := by
  classical
  have hm : ∀ b : Ref sig .scVector, ((thr d L).2.devRef b).owner = Owner.proc (thr d L).2 → (thr d L).2.devRef b ∈ ownRefs (τ := τ) (sig := sig) (thr d L).2 :=
    fun b hb => SparseCore.Cfg.mem_ownRefs_of_owner (b := (thr d L).2.devRef b) hb
  have hn : ∀ b b' : Ref sig .scVector, b ≠ b' → (thr d L).2.devRef b ≠ (thr d L).2.devRef b' := fun b b' h e => h (Proc.devRef_injective _ e)
  unfold SparseCore.Cfg.ownBufs
  rw [SparseCore.bigSep_erase' (hm cc0_scratch0 rfl),
    SparseCore.bigSep_erase' (Finset.mem_erase.mpr ⟨hn cc0_scratch1 cc0_scratch0 (by decide), hm cc0_scratch1 rfl⟩),
    SparseCore.bigSep_erase' (Finset.mem_erase.mpr ⟨hn cc0_scratch2 cc0_scratch1 (by decide), Finset.mem_erase.mpr ⟨hn cc0_scratch2 cc0_scratch0 (by decide), hm cc0_scratch2 rfl⟩⟩)]
  exact ⟨_, rfl⟩

end Own

/-! ## The body -/

variable (fI : (d : Dev nD) → Buf (Elt F) (iLoc d)) (fW : (d : Dev nD) → Buf (Elt F) (wLoc d))

/-- The printed body on the tile at `L`. -/
abbrev tileProg (L : grid0.Coords) : TProg F L PUnit :=
  cc0_k (F := F) L iV (Memref.isWhole_whole _) wV (Memref.isWhole_whole _) oV (Memref.isWhole_whole _) sI (Memref.isWhole_whole _) sW (Memref.isWhole_whole _)
    sO (Memref.isWhole_whole _) cc0_scoped0 cc0_scoped1 cc0_scoped2 cc0_scoped3 cc0_scoped4 cc0_scoped5

set_option maxHeartbeats 1000000 in
/-- The body of the tile at `L`, from its blocks to its blocks of the table. -/
theorem tile_body (d : Dev nD) (L : grid0.Coords) (hpre : ∀ y, (fI d y).toNat < 4096)
    (O : CellTallies nD τ sig (HIx 1)) (W : Waits sig (HIx 1)) (hO : ∀ g, O g none = 0) :
    iprop(levAts (K (F := F)).L (K (F := F)).lev ∗ emp ∗ tileIn fI fW d L
        ∗ scopedBufs (thr d L) ∗ scopedSems0 (thr d L) ∗ owes (thr d L) O W)
      ⊢ wp frame (wpE (defs₀ (F := F)) 𝒱₀ (thr d L) none) Set.univ (tileProg L)
          fun _ => iprop(tileOut fI fW d L ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  have hv1 : ∀ x, ((iSl (k0_off1 L) (k0_off1_inb L)).view.read (Elt F) (fI d) x).toNat < 4096 := by
    intro x; rw [read_iSl _ _ _ (off1_blk L)]; exact hpre _
  have hv4 : ∀ x, ((iSl (k0_off4 L) (k0_off4_inb L)).view.read (Elt F) (fI d) x).toNat < 4096 := by
    intro x; rw [read_iSl _ _ _ (off4_blk L)]; exact hpre _
  rw [(K (F := F)).scopedBufs_V facts d _ _, SparseCore.Cfg.scopedSems0_V (Val := Elt F) d _ _, hRS, hRB]
  unfold tileProg tileIn tileOut
  rw [body_eq]
  iintro ⟨#Hlv, -, ⟨⟨Hi0, Hi1⟩, ⟨Hw0, Hw1⟩, ⟨%f0, Ho0⟩, ⟨%f1, Ho1⟩⟩, ⟨⟨%gi, HI⟩, ⟨%gw, HW⟩, ⟨%g, HA⟩, HRB⟩, ⟨⟨Hs0, Hs1, Hs2, Hs3, Hs4, Hs5⟩, HRS⟩, HO⟩
  ihave Hmw := (show levAts (K (F := F)).L (K (F := F)).lev ⊢ Transfers.MayWaits (thr d L) (default : HIx 1) O from
    (K (F := F)).mayWaits_none (thr := thr d L) hO) $$ Hlv
  icases Hmw with #Hmw
  iapply (wp_round d L (k0_off1 L) (k0_off1_inb L) (k0_off3 L) (k0_off3_inb L) cc0_scoped0 cc0_scoped1 cc0_scoped2 O W (fI d) (fW d) f0 hv1 gi gw g) $$ [Hi0 Hi1 Hw0 Hw1 Ho0 Ho1 HI HW HA HRB Hs0 Hs1 Hs2 Hs3 Hs4 Hs5 HRS HO]
  isplitr; · iexact Hmw
  isplitl [Hi0]; · iexact Hi0
  isplitl [Hw0]; · iexact Hw0
  isplitl [Ho0]; · iexact Ho0
  isplitl [HI]; · iexact HI
  isplitl [HW]; · iexact HW
  isplitl [HA]; · iexact HA
  isplitl [Hs0]; · iexact Hs0
  isplitl [Hs1]; · iexact Hs1
  isplitl [Hs2]; · iexact Hs2
  isplitl [HO]; · iexact HO
  iintro %W1 %hW1 %f0' %hf0 %gi' %gw' %g' Hi0 Hw0 Ho0 HI HW HA Hs0 Hs1 Hs2 HO
  rw [show (round (F := F) L iV wV oV sI (Memref.isWhole_whole _) sW (Memref.isWhole_whole _) sO (Memref.isWhole_whole _) (k0_off4 L) (k0_off4_inb L) (k0_off6 L) (k0_off6_inb L) cc0_scoped3 cc0_scoped4 cc0_scoped5)
    = (round L iV wV oV sI (Memref.isWhole_whole _) sW (Memref.isWhole_whole _) sO (Memref.isWhole_whole _) (k0_off4 L) (k0_off4_inb L) (k0_off6 L) (k0_off6_inb L) cc0_scoped3 cc0_scoped4 cc0_scoped5 >>= fun u => pure u) from (bind_pure _).symm]
  iapply (wp_round d L (k0_off4 L) (k0_off4_inb L) (k0_off6 L) (k0_off6_inb L) cc0_scoped3 cc0_scoped4 cc0_scoped5 O W1 (fI d) (fW d) f1 hv4 gi' gw' g') $$ [Hi0 Hi1 Hw0 Hw1 Ho0 Ho1 HI HW HA HRB Hs0 Hs1 Hs2 Hs3 Hs4 Hs5 HRS HO]
  isplitr; · iexact Hmw
  isplitl [Hi1]; · iexact Hi1
  isplitl [Hw1]; · iexact Hw1
  isplitl [Ho1]; · iexact Ho1
  isplitl [HI]; · iexact HI
  isplitl [HW]; · iexact HW
  isplitl [HA]; · iexact HA
  isplitl [Hs3]; · iexact Hs3
  isplitl [Hs4]; · iexact Hs4
  isplitl [Hs5]; · iexact Hs5
  isplitl [HO]; · iexact HO
  iintro %W2 %hW2 %f1' %hf1 %gi'' %gw'' %g'' Hi1 Hw1 Ho1 HI HW HA Hs3 Hs4 Hs5 HO
  sl_step
  ihave Ho0 := (Entails.of_eq (lands d (k0_off1 L) (k0_off1_inb L) (k0_off3 L) (k0_off3_inb L) _ (off1_blk L) (off3_blk L) (fI d) (fW d) f0' hf0)) $$ Ho0
  ihave Ho1 := (Entails.of_eq (lands d (k0_off4 L) (k0_off4_inb L) (k0_off6 L) (k0_off6_inb L) _ (off4_blk L) (off6_blk L) (fI d) (fW d) f1' hf1)) $$ Ho1
  isplitl [Hi0 Hi1 Hw0 Hw1 Ho0 Ho1]
  · isplitl [Hi0 Hi1]
    · isplitl [Hi0]; · iexact Hi0
      iexact Hi1
    isplitl [Hw0 Hw1]
    · isplitl [Hw0]; · iexact Hw0
      iexact Hw1
    isplitl [Ho0]; · iexact Ho0
    iexact Ho1
  isplitl [HI HW HA HRB]
  · isplitl [HI]; · iexists _; iexact HI
    isplitl [HW]; · iexists _; iexact HW
    isplitl [HA]; · iexists _; iexact HA
    iexact HRB
  isplitl [Hs0 Hs1 Hs2 Hs3 Hs4 Hs5 HRS]
  · isplitr [HRS]
    · isplitl [Hs0]; · iexact Hs0
      isplitl [Hs1]; · iexact Hs1
      isplitl [Hs2]; · iexact Hs2
      isplitl [Hs3]; · iexact Hs3
      isplitl [Hs4]; · iexact Hs4
      iexact Hs5
    iexact HRS
  iexists W2; isplitr
  · ipureintro
    intro p hp
    rcases hW2 p hp with h | h
    · exact hW1 p h
    · exact .inr h
  · iexact HO

end Cert.Proof.KernelIdeal

end
-- ==== Proof.Ideal.Deal.lean ====
/-
  What the launch deals: each SparseCore its tiles' blocks, each tile its own, and the table's blocks joined when they come back.
-/
module

public import proofs.«01_k».proof.Proof.Ideal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Grid coordinates by SparseCore and tile. -/
def coordsV (c : Fin 2) (s : Fin 16) : grid0.Coords :=
  fun | 0 => c | 1 => s | ⟨_ + 2, h⟩ => absurd h (Nat.not_lt.2 (Nat.le_add_left _ _))

variable (fI : (d : Dev nD) → Buf (Elt F) (iLoc d)) (fW : (d : Dev nD) → Buf (Elt F) (wLoc d))

/-- The one call's payloads: a SparseCore carries its tiles' blocks, there and back. -/
def P : (K (F := F)).Pay (nD := nD) (Val := Elt F) (Name := ℕ) (U := UU) where
  st := fun q d c => match q with | 0 => bigSep Finset.univ fun i : Fin 16 => tileIn fI fW d (coordsV c i)
  dn := fun q d c => match q with | 0 => bigSep Finset.univ fun i : Fin 16 => tileOut fI fW d (coordsV c i)
  go := fun q d c i => match q with | 0 => tileIn fI fW d (coordsV c i)
  td := fun q d c i => match q with | 0 => tileOut fI fW d (coordsV c i)
  x := fun _ _ => iprop(emp)

instance P_storable : (P (F := F) fI fW).IsStorable where
  st q d c := match q with
    | 0 => (inferInstance : BI.Storable (upEmb : UEmb _ 𝕄) (bigSep Finset.univ fun i : Fin 16 => tileIn fI fW d (coordsV c i)))
  dn q d c := match q with
    | 0 => (inferInstance : BI.Storable (upEmb : UEmb _ 𝕄) (bigSep Finset.univ fun i : Fin 16 => tileOut fI fW d (coordsV c i)))
  go q d c i := match q with | 0 => tileIn_storable fI fW d (coordsV c i)
  td q d c i := match q with | 0 => tileOut_storable fI fW d (coordsV c i)

/-! ## A tile's obligation -/

theorem defs₀_vector (c : Fin τ.nSC) (s : Fin τ.nSub) :
    defs₀ (F := F) (.scVector c s) 0 () = SparseCore.onTile hcore0 hsub0 (fun c s => tileProg (coordsV c s)) ⟨⟩ c s := rfl

/-- The waits a tile leaves recorded are its own copies'. -/
theorem waits_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : ∀ d y, (fI d y).toNat < 4096) : (K (F := F)).TileObl (D (F := F)) 𝒱 (P fI fW) v₀ 0 := by
  intro d c i O W hO _ _
  simp only [show (P fI fW).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fI fW d (coordsV ⟨_, hci.1⟩ ⟨_, hci.2⟩) (hpre d) O W hO).trans (wp_mono frame _ _ fun _ => waits_post)

/-! ## A SparseCore's blocks are its tiles' -/

theorem vecSplit : (K (F := F)).VecSplit' (P fI fW) 0 := by
  intro d c
  show (bigSep Finset.univ fun i : Fin 16 => tileIn fI fW d (coordsV c i)) ⊢ |={Set.univ}=> iprop(
      (bigSep Finset.univ fun i : Fin 16 => tileIn fI fW d (coordsV c i))
      ∗ ((bigSep Finset.univ fun i : Fin 16 => tileOut fI fW d (coordsV c i)) -∗ bigSep Finset.univ fun i : Fin 16 => tileOut fI fW d (coordsV c i)))
  iintro H; imodintro
  isplitl [H]; · iexact H
  iintro H; iexact H

/-! ## The arrays whole and in blocks -/

theorem mem_inSet (c : Fin 2) (i : Fin 16) (r : Fin 2) (y : S65536.Idx) :
    y ∈ inSet (coordsV c i) r ↔ (y 0).val / 1024 = 4 * i.val + 2 * c.val + r.val :=
  match r with
  | 0 => mem_iSl _ _ _ (off1_blk (coordsV c i)) y
  | 1 => mem_iSl _ _ _ (off4_blk (coordsV c i)) y
theorem mem_outSet (c : Fin 2) (i : Fin 16) (r : Fin 2) (y : S4194304.Idx) :
    y ∈ outSet (coordsV c i) r ↔ (y 0).val / 65536 = 4 * i.val + 2 * c.val + r.val :=
  match r with
  | 0 => mem_oSl _ _ _ (off3_blk (coordsV c i)) y
  | 1 => mem_oSl _ _ _ (off6_blk (coordsV c i)) y

theorem iPts_blocks (d : Dev nD) (f : Buf (Elt F) (iLoc d)) :
    (iLoc d ↦{fullShare} f : sProp 𝕄) = bigSep Finset.univ fun c : Fin 2 => bigSep Finset.univ fun i : Fin 16 =>
      iprop((iLoc d ↦[inSet (coordsV c i) 0]{fullShare} f) ∗ (iLoc d ↦[inSet (coordsV c i) 1]{fullShare} f)) :=
  split_blocks (ℓ := iLoc d) (fun c i r => inSet (coordsV c i) r) (fun y : S65536.Idx => (y 0).val / 1024)
    (fun y => by have h : (y 0).val < 65536 := (y 0).isLt; show (y 0).val / 1024 < 64; omega) (fun c i r y => mem_inSet c i r y) f
theorem wPts_blocks (d : Dev nD) (f : Buf (Elt F) (wLoc d)) :
    (wLoc d ↦{fullShare} f : sProp 𝕄) = bigSep Finset.univ fun c : Fin 2 => bigSep Finset.univ fun i : Fin 16 =>
      iprop((wLoc d ↦[inSet (coordsV c i) 0]{fullShare} f) ∗ (wLoc d ↦[inSet (coordsV c i) 1]{fullShare} f)) :=
  split_blocks (ℓ := wLoc d) (fun c i r => inSet (coordsV c i) r) (fun y : S65536.Idx => (y 0).val / 1024)
    (fun y => by have h : (y 0).val < 65536 := (y 0).isLt; show (y 0).val / 1024 < 64; omega) (fun c i r y => mem_inSet c i r y) f
theorem oPts_blocks (d : Dev nD) (f : Buf (Elt F) (oLoc d)) :
    (oLoc d ↦{fullShare} f : sProp 𝕄) = bigSep Finset.univ fun c : Fin 2 => bigSep Finset.univ fun i : Fin 16 =>
      iprop((oLoc d ↦[outSet (coordsV c i) 0]{fullShare} f) ∗ (oLoc d ↦[outSet (coordsV c i) 1]{fullShare} f)) :=
  split_blocks (ℓ := oLoc d) (fun c i r => outSet (coordsV c i) r) (fun y : S4194304.Idx => (y 0).val / 65536)
    (fun y => by have h : (y 0).val < 4194304 := (y 0).isLt; show (y 0).val / 65536 < 64; omega) (fun c i r y => mem_outSet c i r y) f

/-- Three families together, tile by tile. -/
theorem sep_tiles (Φ Ψ Ξ : Fin 2 → Fin 16 → sProp 𝕄) :
    iprop((bigSep Finset.univ fun c => bigSep Finset.univ fun i => Φ c i) ∗ (bigSep Finset.univ fun c => bigSep Finset.univ fun i => Ψ c i)
        ∗ (bigSep Finset.univ fun c => bigSep Finset.univ fun i => Ξ c i))
      = bigSep Finset.univ fun c => bigSep Finset.univ fun i => iprop(Φ c i ∗ Ψ c i ∗ Ξ c i) := by
  simp only [bigSep_sep']

/-- A tile's blocks of the three arrays are what it is handed. -/
theorem tileIn_of (d : Dev nD) (L : grid0.Coords) (f : Buf (Elt F) (oLoc d)) :
    iprop(((iLoc d ↦[inSet L 0]{fullShare} fI d) ∗ (iLoc d ↦[inSet L 1]{fullShare} fI d))
      ∗ ((wLoc d ↦[inSet L 0]{fullShare} fW d) ∗ (wLoc d ↦[inSet L 1]{fullShare} fW d))
      ∗ ((oLoc d ↦[outSet L 0]{fullShare} f) ∗ (oLoc d ↦[outSet L 1]{fullShare} f))) ⊢ (tileIn fI fW d L : sProp 𝕄) := by
  unfold tileIn
  iintro ⟨Hi, Hw, Ho0, Ho1⟩
  isplitl [Hi]; · iexact Hi
  isplitl [Hw]; · iexact Hw
  isplitl [Ho0]
  · iexists f; iexact Ho0
  · iexists f; iexact Ho1

/-- The three arrays whole are what the call is handed; -/
theorem st_of_whole (d : Dev nD) (f : Buf (Elt F) (oLoc d)) :
    iprop((iLoc d ↦{fullShare} fI d) ∗ (wLoc d ↦{fullShare} fW d) ∗ (oLoc d ↦{fullShare} f))
      ⊢ (bigSep Finset.univ fun c : Fin ((K (F := F)).nCore 0) => (P fI fW).st 0 d c : sProp 𝕄) := by
  show _ ⊢ bigSep Finset.univ fun c : Fin 2 => bigSep Finset.univ fun i : Fin 16 => tileIn fI fW d (coordsV c i)
  rw [iPts_blocks, wPts_blocks, oPts_blocks]
  refine (Entails.of_eq (sep_tiles _ _ _)).trans ?_
  refine BI.bigSep_mono fun c _ => BI.bigSep_mono fun i _ => ?_
  exact tileIn_of fI fW d (coordsV c i) f
/-- what it brings back is the arrays whole, the table in the last. -/
theorem whole_of_dn (d : Dev nD) :
    (bigSep Finset.univ fun c : Fin ((K (F := F)).nCore 0) => (P fI fW).dn 0 d c : sProp 𝕄)
      ⊢ iprop((iLoc d ↦{fullShare} fI d) ∗ (wLoc d ↦{fullShare} fW d) ∗ (oLoc d ↦{fullShare} (WT (fI d) (fW d) : Buf (Elt F) (oLoc d)))) := by
  show (bigSep Finset.univ fun c : Fin 2 => bigSep Finset.univ fun i : Fin 16 => tileOut fI fW d (coordsV c i)) ⊢ _
  rw [iPts_blocks, wPts_blocks, oPts_blocks]
  refine BI.Entails.trans ?_ (Entails.of_eq (sep_tiles _ _ _).symm)
  refine BI.bigSep_mono fun c _ => BI.bigSep_mono fun i _ => ?_
  unfold tileOut
  exact BI.Entails.refl _

end Cert.Proof.KernelIdeal

end
-- ==== Proof.Ideal.TcBody.lean ====
/-
  The TensorCore kernel's body: on a block `x` of rows and a block `w` of class rows it leaves `exp (x · wᵀ)` in its
  result's buffer.
-/
module

public import proofs.«01_k».proof.Proof.Ideal.Setup
public import Idealize.ShloMosaic.Lib.Pipeline.FrameBody

@[expose] public section

noncomputable section

namespace Cert.Proof.KernelIdeal

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- What the body computes from a block of rows and a block of class rows. -/
def expDot (x : Vec F S1024x4096 .f32) (w : Vec F S256x4096 .f32) : FVec F S1024x256 .f32 :=
  exp (matmul dot_S1024x4096_S256x4096_S1024x256_1_1_0_0_n_n none x (shapeCast S256x4096 w shapeCasts_S256x4096_S256x4096)
    (constant S1024x256 .f32 0x00000000#32))

/-- The rectangle that is all of a shape places every index at itself. -/
theorem full_emb {s : Shape} (off : Fin s.rank → ℕ) (h0 : ∀ a, off a = 0) (h) (x : s.Idx) :
    (Rect.unit (s := s) off s.size h).emb x = x := by
  funext a; apply Fin.ext
  have e : ((Rect.unit (s := s) off s.size h).emb x a).val = off a + 1 * (x a).val := rfl
  rw [e, h0, Nat.zero_add, Nat.one_mul]

/-- It holds every index. -/
theorem full_mem {s : Shape} (off : Fin s.rank → ℕ) (h0 : ∀ a, off a = 0) (h) (x : s.Idx) :
    x ∈ (Rect.unit (s := s) off s.size h).set :=
  (LoadRect.mem_set _).mpr fun a => ⟨(x a).val, (x a).isLt, by
    have e : (Rect.unit (s := s) off s.size h).toLoadRect.off a = off a := rfl
    have e' : (Rect.unit (s := s) off s.size h).toLoadRect.stride a = 1 := rfl
    rw [e, e', h0, Nat.zero_add, Nat.one_mul]⟩

/-- What a load of all of a buffer reads. -/
theorem readAt_full {κ : Kind} {sp : Space} {s : Shape} {e : EltTy} (v : View sig κ sp s e) (f : v.ty.Contents (Elt F)) (off : Fin s.rank → ℕ)
    (h0 : ∀ a, off a = 0) (h) : v.readAt (Elt F) (Rect.unit (s := s) off s.size h).toLoadRect f = v.read (Elt F) f := by
  funext x
  show v.read (Elt F) f _ = v.read (Elt F) f x
  exact congrArg _ (full_emb off h0 h x)

theorem off2 (a : Fin 2) : (![0, 0] : Fin 2 → ℕ) a = 0 := by fin_cases a <;> rfl

set_option maxHeartbeats 1000000 in
theorem body_run [∀ e, Nonempty (Elt F e)] (c : Dev nD) (E : Set ℕ) (i : grid1.Coords) (M0 : Memref sig .tc .vmem S1024x4096 .f32) (h0 : M0.IsWhole)
    (M1 : Memref sig .tc .vmem S256x4096 .f32) (h1 : M1.IsWhole) (M2 : Memref sig .tc .vmem S1024x256 .f32) (h2 : M2.IsWhole)
    (x : Vec F S1024x4096 .f32) (w : Vec F S256x4096 .f32) (Q : PUnit → sProp 𝕄) :
    iprop(owns (c : Thread nD τ) M0 fullShare x ∗ owns (c : Thread nD τ) M1 fullShare w ∗ (∃ d, owns (c : Thread nD τ) M2 fullShare d)
        ∗ (iprop(owns (c : Thread nD τ) M0 fullShare x ∗ owns (c : Thread nD τ) M1 fullShare w ∗ owns (c : Thread nD τ) M2 fullShare (expDot x w)) -∗ Q ⟨⟩))
      ⊢ wp frame (wpE (defs₀ (F := F)) Variants.none c none) E (cc1_body i M0 h0 M1 h1 M2 h2) Q := by
  unfold cc1_body
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · intro y
    refine ⟨_, List.mem_singleton_self _, ?_⟩
    exact full_mem (s := S1024x256) ![0, 0] off2 inb_S1024x256_S1024x256_0_0 y
  · funext y
    refine (congrArg _ (full_emb (s := S1024x256) ![0, 0] off2 inb_S1024x256_S1024x256_0_0 y).symm).trans ?_
    refine (View.canon_cons_emb _ _ _ _).trans ?_
    unfold expDot body_run.sl.v4 body_run.sl.v3 body_run.sl.v2 body_run.sl.cst
    rw [readAt_full (s := S1024x4096) _ _ _ off2, readAt_full (s := S256x4096) _ _ _ off2]

end Cert.Proof.KernelIdeal

end
-- ==== Proof.Ideal.Region.lean ====
/-
  The TensorCore call: on each of its four grid points it reads all of `main_arg0` and one block of 256 rows of
  `main_v9`, and writes one block of 256 columns of `main_v10`. Entered with the unscoped buffers at any contents,
  left with `main_v10` at what its four write-backs make.
-/
module

public import proofs.«01_k».proof.Proof.Ideal.TcBody
public import Idealize.ShloMosaic.Lib.Pipeline.RegionsLoop

@[expose] public section

noncomputable section

namespace Cert.Proof.KernelIdeal

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig (HIx 1) (Elt F) ℕ UU ℕ

variable (V : Dev nD → Valuation τ sig (Elt F))

/-- The block of window `w`'s array that grid point `t` stages, the arrays at `V c`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What grid point `t` leaves in the result's staging buffer. -/
def outBlk (c : Dev nD) (t : Fin cfg1.N) : (cfg1.win 2).block.Idx → Elt F (cfg1.win 2).elt :=
  expDot (iblk V c 0 t) (iblk V c 1 t)

/-- What the call's own waits and those before it have recorded: nothing above level 8. -/
def rec8 (c : Dev nD) : Set (SemLoc sig × HIx 1) := {p | (K (F := F)).lev ((c : Thread nD τ), p.1) p.2 ≤ 8}

/-- The call's proof data from the contents `V`: each input window's buffer keeps its block, the result's gets
    `outBlk`; nothing is owed. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => outBlk V c t
  Φ _ := BI.emp
  q _ := fullShare
  owed _ := 0
  recorded _ := rec8 (F := F) c

theorem before0 (c : Dev nD) (t : Fin cfg1.N) (d) : (dat V c).before 0 t d = iblk V c 0 t :=
  ((dat V c).before_in_eq_fetched 0 rfl (fun _ => rfl) (fun _ _ _ => rfl) (fun t => by dsimp only [dat]; unfold Dat.blockOf iblk; rfl) t d).trans
    (by unfold Dat.fetched Dat.blockOf iblk; dsimp only [dat]; rfl)

theorem before1 (c : Dev nD) (t : Fin cfg1.N) (d) : (dat V c).before 1 t d = iblk V c 1 t :=
  ((dat V c).before_in_eq_fetched 1 rfl (fun _ => rfl) (fun _ _ _ => rfl) (fun t => by dsimp only [dat]; unfold Dat.blockOf iblk; rfl) t d).trans
    (by unfold Dat.fetched Dat.blockOf iblk; dsimp only [dat]; rfl)

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = outBlk V c t := by dsimp only [dat]

/-- At every grid point the body does what the data says. -/
theorem body_obl (c : Dev nD) : BodyObligation (dat V c) (defs₀ (F := F)) 𝒱₀ none Set.univ := fun t => by
  rw [bigSep_W1, bigSep_W1]
  simp only [before0, before1, after0, after1, after2]
  rw [show (dat V c).Φ t.castSucc = (dat V c).Φ t.succ from rfl, show (dat V c).owesAt none t.castSucc = (dat V c).owesAt none t.succ from rfl]
  iintro ⟨HΦ, HO, ⟨%d0, H0⟩, ⟨%d1, H1⟩, ⟨%d2, H2⟩⟩
  iapply (body_run c Set.univ (grid1.coords t) _ (hstage1_0 ((cfg1.slots t 0).cast nbuf1_0)) _
    (hstage1_1 ((cfg1.slots t 1).cast nbuf1_1)) _ (hstage1_2 ((cfg1.slots t 2).cast nbuf1_2)) (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  unfold outBlk; iexact H2

/-! ## The call over the thread state -/

/-- The pipeline has no prefetched table. -/
abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat V c

/-- The TensorCore's buffers that live for the whole run. -/
def ucRefs : Finset (DevRef τ sig) := (StableHlo.tcRefs τ sig).filter fun b => ¬ b.isScoped

/-- Those buffers at a valuation, in the two spellings. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The contents the call leaves: `main_v10` at what the write-backs make of it, everything else as it was. -/
def Vp (c : Dev nD) : Valuation τ sig (Elt F) := Function.update (V c) main_v10 ((dat V c).arrAt 2 cfg1.N)

theorem Vp_out (c : Dev nD) : Vp V c main_v10 = (dat V c).arrAt 2 cfg1.N := Function.update_self ..

theorem Vp_ne (c : Dev nD) (b : Ref sig .tc) (h : b ≠ main_v10) : Vp V c b = V c b :=
  Function.update_of_ne (fun e => h (Proc.devRef_injective .tc e)) ..

/-- The core's waits so far, nothing owed. -/
def owes8 (c : Dev nD) : sProp 𝕄 :=
  iprop(∃ W, ⌜(K (F := F)).WBelow (SparseCore.T c) W 8⌝ ∗ owes (SparseCore.T c) (0 : CellTallies nD τ sig (HIx 1)) W)

set_option backward.isDefEq.respectTransparency.types false in
/-- The call over the state "every lasting buffer at `V c` and nothing owed": the three arrays are split out on entry
    and put back at `Vp V c` on exit. -/
def reg : Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obl V c).loose
  hwaits := Pipeline.hwaits_of_owed_zero _ _ _ _ (K (F := F)).L (K (F := F)).lev 0 fun _ _ => rfl
  pre c := iprop(unscopedBufs c (fun b => V c b) ∗ owes8 (F := F) c)
  post c := iprop(unscopedBufs c (fun b => Vp V c b) ∗ owes8 (F := F) c)
  X _ := BI.emp
  Y _ := BI.emp
  Z c := Pipeline.unscopedRest (Ix := HIx 1) (Name := ℕ) (U := UU) (Lvl := ℕ) spec1 c (fun b => V c b)
  hentry c := by
    rw [Pipeline.ownSems0_none]
    have hsplit := Pipeline.arrays_of_unscopedBufs (p := 0) (pcfgs (F := F)) adm (pdats V) launch1.win launch1.arr_whole c
      ((pdats V 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owes8 Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show Pipeline.scopedRest (pcfgs (F := F) 0).spec c = BI.emp from scopedRest1_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (fun b => V c b) (fun b => Vp V c b) ((pdats V 0 c).arrAt · cfg1.N)
      (fun w => by
        fin_cases w
        · exact ((pdats V 0 c).arrAt_in 0 rfl _).trans (Vp_ne V c main_arg0 (by decide)).symm
        · exact ((pdats V 0 c).arrAt_in 1 rfl _).trans (Vp_ne V c main_v9 (by decide)).symm
        · exact (Vp_out V c).symm)
      (fun b hb => Vp_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold owes8 Pipeline.Dat.owesAt Pipeline.owesWithin
    icases HO with ⟨%W, %hW, HO⟩; iexists W; isplitr; swap; · iexact HO
    ipureintro
    exact fun p hp => (hW hp).elim id fun ⟨_, _, h⟩ => h ▸ Nat.zero_le _

theorem reg_pre (c : Dev nD) : (reg V).pre c = iprop(unscopedBufs c (fun b => V c b) ∗ owes8 (F := F) c) := by dsimp only [reg]

theorem reg_post (c : Dev nD) : (reg V).post c = iprop(unscopedBufs c (fun b => Vp V c b) ∗ owes8 (F := F) c) := by dsimp only [reg]

/-- The call as a step of the whole program. -/
theorem wp_region (c : Dev nD) (Q : PUnit → sProp 𝕄) :
    iprop(boundary (SparseCore.T c) ∗ StableHlo.held (SparseCore.T c) ucRefs (V c) ∗ owes8 (F := F) c ∗ levAts (K (F := F)).L (K (F := F)).lev
        ∗ Pipeline.cellsGhost (Pipeline.pin (pcfgs (F := F)) adm) EP 0 c ∗ Pipeline.toksInit (Pipeline.pin (pcfgs (F := F)) adm) EP 0 c
        ∗ (iprop(boundary (SparseCore.T c) ∗ StableHlo.held (SparseCore.T c) ucRefs (Vp V c) ∗ owes8 (F := F) c) -∗ Q ⟨⟩))
      ⊢ wp frame (wpE ((K (F := F)).defs (D (F := F))) 𝒱 (SparseCore.T c) none) Set.univ
          (Prog.lift (.customCall (SparseCore.inner (Pipeline.entry 0)) ())) Q := by
  have h := ((reg V).wp (pcfgs (F := F)) adm (pdats V) none cellOf_inj EP defs₀ 𝒱₀ (K (F := F)).L (K (F := F)).lev c none (fun _ h => nomatch h)
    (fun _ => .ret ⟨⟩) Q).trans ((K (F := F)).wp_liftProg (D (F := F)) 𝒱 (SparseCore.T c) Set.univ none _ Q)
  refine BIBase.Entails.trans ?_ h
  rw [reg_pre, reg_post]
  rw [← unscopedBufs_held, ← unscopedBufs_held]
  iintro ⟨Hb, Hu, HO, #Hl, Hg, Ht, HQ⟩
  isplitl [HQ]
  · iintro ⟨Hb, Hu, HO⟩
    rw [wp_ret]
    imodintro
    iapply HQ
    isplitl [Hb]; · iexact Hb
    isplitl [Hu] <;> iassumption
  isplitl [Hb]; · iexact Hb
  isplitl [Hu HO]
  · isplitl [Hu] <;> iassumption
  isplitr; · iexact Hl
  isplitl [Hg] <;> iassumption

end Cert.Proof.KernelIdeal

end
-- ==== Proof.Ideal.Main.lean ====
/-
  The whole program on a device: the host operations before the SparseCore launch, the launch, the reshape of its table,
  the TensorCore call and the slice; what every lasting buffer holds at the end.
-/
module

public import proofs.«01_k».proof.Proof.Ideal.Deal
public import proofs.«01_k».proof.Proof.Ideal.Region

@[expose] public section

noncomputable section

namespace Cert.Proof.KernelIdeal

open Cert.KernelIdeal Cert.KernelIdeal.Gen
open Idealize.ShloMosaic Idealize.ShloMosaic.TcCoe
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The operations and the contents they leave -/

/-- The host operations before the launch: both inputs padded to 1024 classes and re-laid in blocks. -/
def opsPre : List (HloOp τ sig (Elt F)) :=
  [ nullary main_c (constantI S_ 32 0#32),
    TRef.unary (TRef.of main_c : TRef sig ⟨S_, .i32⟩) main_call0.v0 id,
    TRef.binary (TRef.of main_arg2 : TRef sig ⟨S1000x64, .i32⟩) main_call0.v0 main_call0.v1 (fun x v => pad S1024x64 ![0, 0] ![24, 0] ![0, 0] x v pads_S1000x64_S1024x64_0240_000 h_S_),
    reshape main_v0 main_v1 (rfl : (.i32 : EltTy) = .i32) shapeCasts_S1024x64_S64x16x64,
    unary main_v1 main_v2 ((transpose S64x64x16 [0, 2, 1] · transposes_S64x16x64_S64x64x16_0_2_1) : (⟨S64x16x64, .i32⟩ : BufTy).Contents (Elt F) → (⟨S64x64x16, .i32⟩ : BufTy).Contents (Elt F)),
    reshape main_v2 main_v3 (rfl : (.i32 : EltTy) = .i32) shapeCasts_S64x64x16_S65536,
    nullary main_c_0 (constantI S_ 32 0#32),
    TRef.unary (TRef.of main_c_0 : TRef sig ⟨S_, .i32⟩) main_call1.v0 (sitofp .f32),
    TRef.binary (TRef.of main_arg1 : TRef sig ⟨S1000x64, .f32⟩) main_call1.v0 main_call1.v1 (fun x v => pad S1024x64 ![0, 0] ![24, 0] ![0, 0] x v pads_S1000x64_S1024x64_0240_000 h_S_),
    reshape main_v4 main_v5 (rfl : (.f32 : EltTy) = .f32) shapeCasts_S1024x64_S64x16x64,
    unary main_v5 main_v6 ((transpose S64x64x16 [0, 2, 1] · transposes_S64x16x64_S64x64x16_0_2_1) : (⟨S64x16x64, .f32⟩ : BufTy).Contents (Elt F) → (⟨S64x64x16, .f32⟩ : BufTy).Contents (Elt F)),
    reshape main_v6 main_v7 (rfl : (.f32 : EltTy) = .f32) shapeCasts_S64x64x16_S65536 ]

/-- The table as a matrix. -/
abbrev opMat : HloOp τ sig (Elt F) := reshape main_v8 main_v9 (rfl : (.f32 : EltTy) = .f32) shapeCasts_S4194304_S1024x4096

/-- The first 1000 columns. -/
abbrev opSlice : HloOp τ sig (Elt F) :=
  unary main_v10 main_v11 ((extractStridedSlice S1024x1000 ![0, 0] · slices_S1024x1024_S1024x1000_0_0) : (⟨S1024x1024, .f32⟩ : BufTy).Contents (Elt F) → (⟨S1024x1000, .f32⟩ : BufTy).Contents (Elt F))

theorem main_eq (d : Dev nD) : main (F := F) d = (seq opsPre >>= fun _ => do
    (K (F := F)).run d 0
    hlo rfl opMat (fun _ => .ret ⟨⟩)
    Prog.lift (.customCall (SparseCore.inner (Pipeline.entry 0)) ())
    hlo rfl opSlice (fun _ => .ret ⟨⟩)
    Pure.pure ⟨⟩) := by
  unfold main fn_pad.body fn_pad_0.body opsPre
  simp only [seq, bind_assoc, pure_bind]

variable (m : (ℓ : Loc nD τ sig) → Buf (Elt F) ℓ) (ρ : Dev nD → PrngReg)

/-- What the buffers hold at the start, -/
def V0 (d : Dev nD) : Valuation τ sig (Elt F) := fun b => m (d, b)
/-- at the launch, -/
def VA (d : Dev nD) : Valuation τ sig (Elt F) := after opsPre (V0 m d)
/-- the column numbers and the weights in blocks, -/
abbrev fI (d : Dev nD) : Buf (Elt F) (iLoc d) := VA m d main_v3
@[inherit_doc fI]
abbrev fW (d : Dev nD) : Buf (Elt F) (wLoc d) := VA m d main_v7
/-- after the launch, -/
def VB (d : Dev nD) : Valuation τ sig (Elt F) := Function.update (VA m d) main_v8 (WT (fI m d) (fW m d))
/-- at the TensorCore call, -/
def VC (d : Dev nD) : Valuation τ sig (Elt F) := opMat.result (VB m d)
/-- and at the end. -/
def VE (d : Dev nD) : Valuation τ sig (Elt F) := opSlice.result (Vp (VC m) d)

/-! ## The buffers the launch takes -/

theorem mem_ucRefs {b : Ref sig .tc} (h : b.isScoped = false) : (Proc.devRef .tc b : DevRef τ sig) ∈ ucRefs :=
  Finset.mem_filter.mpr ⟨devRef_mem_tcRefs b, by rw [show (Proc.devRef .tc b : DevRef τ sig).isScoped = b.isScoped from rfl, h]; decide⟩

theorem opsPre_bufs : ∀ op ∈ opsPre (F := F), op.bufs ⊆ ucRefs := by
  unfold opsPre
  simp only [List.forall_mem_cons, List.forall_mem_nil, and_true, TRef.unary, TRef.binary, nullary_bufs, unary_bufs, binary_bufs, reshape_bufs,
    Finset.insert_subset_iff, Finset.singleton_subset_iff]
  refine ⟨?_, ?_, ?_, ?_, ?_, ?_, ?_, ?_, ?_, ?_, ?_, ?_, fun _ h => absurd h List.not_mem_nil⟩ <;> (repeat' apply And.intro) <;> exact mem_ucRefs rfl

theorem opsPre_fresh : ∀ op ∈ opsPre (F := F), op.fresh = ∅ := by
  unfold opsPre
  simp only [List.forall_mem_cons, List.forall_mem_nil, and_true]
  refine ⟨?_, ?_, ?_, ?_, ?_, ?_, ?_, ?_, ?_, ?_, ?_, ?_, fun _ h => absurd h List.not_mem_nil⟩ <;> rfl

/-- The three arrays of the launch. -/
def scRefs : Finset (DevRef τ sig) := {Proc.devRef .tc main_v3, Proc.devRef .tc main_v7, Proc.devRef .tc main_v8}

theorem scRefs_sub : scRefs ⊆ ucRefs := by
  unfold scRefs
  simp only [Finset.insert_subset_iff, Finset.singleton_subset_iff]
  exact ⟨mem_ucRefs rfl, mem_ucRefs rfl, mem_ucRefs rfl⟩

/-- The lasting buffers are the launch's three arrays and the others. -/
theorem held_sc (d : Dev nD) (W : Valuation τ sig (Elt F)) :
    (held (SparseCore.T d) ucRefs W : sProp 𝕄)
      = iprop(((iLoc d ↦{fullShare} W main_v3) ∗ (wLoc d ↦{fullShare} W main_v7) ∗ (oLoc d ↦{fullShare} W main_v8)) ∗ held (SparseCore.T d) (ucRefs \ scRefs) W) := by
  unfold held
  conv_lhs => rw [← Finset.union_sdiff_of_subset scRefs_sub]
  rw [bigSep_union Finset.disjoint_sdiff]
  congr 1
  unfold scRefs
  rw [SparseCore.bigSep_insert' (by decide), SparseCore.bigSep_insert' (by decide), bigSep_singleton]

/-- The others do not notice the table. -/
theorem held_rest (d : Dev nD) : (held (SparseCore.T d) (ucRefs \ scRefs) (VB m d) : sProp 𝕄) = held (SparseCore.T d) (ucRefs \ scRefs) (VA m d) := by
  unfold held VB
  refine bigSep_congr fun b hb => ?_
  rw [Function.update_of_ne]
  rintro rfl
  exact (Finset.mem_sdiff.mp hb).2 (by unfold scRefs; simp)

theorem VB_v3 (d : Dev nD) : VB m d main_v3 = fI m d := Function.update_of_ne (by decide) ..
theorem VB_v7 (d : Dev nD) : VB m d main_v7 = fW m d := Function.update_of_ne (by decide) ..
theorem VB_v8 (d : Dev nD) : VB m d main_v8 = WT (fI m d) (fW m d) := Function.update_self ..

/-- After the launch nothing is owed. -/
theorem tcSt_owes (d : Dev nD) :
    ((K (F := F)).tcSt EH d 1 : sProp 𝕄) ⊢ iprop(owes8 (F := F) d ∗ (owes8 (F := F) d -∗ (K (F := F)).tcSt EH d 1)) := by
  unfold SparseCore.Cfg.tcSt owes8
  rw [(K (F := F)).Otc_end d (le_refl 1)]
  iintro ⟨H, Hr⟩
  isplitl [H]; · iexact H
  iintro H
  isplitl [H] <;> iassumption

/-! ## The run of @main -/

/-- The staging cells' first state and their tokens on one device. -/
def G (d : Dev nD) : sProp 𝕄 :=
  iprop(Pipeline.cellsGhost (Pipeline.pin (pcfgs (F := F)) adm) EP 0 d ∗ Pipeline.toksInit (Pipeline.pin (pcfgs (F := F)) adm) EP 0 d)

/-- What @main leaves: every lasting buffer at its last contents. -/
abbrev FIN (d : Dev nD) : sProp 𝕄 := held (SparseCore.T d) ucRefs (VE m d)

set_option backward.isDefEq.respectTransparency.types false in
theorem hmain (κ : GSem nD τ sig → ℕ) (d : Dev nD) :
    iprop((K (F := F)).ctx EH (P (fI m) (fW m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) ucRefs (V0 m d) from unscopedBufs_held d (V0 m d), main_eq]
  iintro ⟨#Hctx, Hst, ⟨Hb, Hheld, Hts, -⟩, HG⟩
  iapply (wp_seq 𝒱 none Set.univ d ucRefs _ opsPre opsPre_bufs opsPre_fresh (V0 m d)) $$ [Hb Hheld]
  · isplitl [Hb] <;> iassumption
  iintro ⟨Hb, Hheld⟩
  simp only [wp_bind, wp_pure]
  ihave Hh := (Entails.of_eq (show (held d.tc ucRefs (after opsPre (V0 m d)) : sProp 𝕄) = _ from held_sc (F := F) d (VA m d))) $$ Hheld
  icases Hh with ⟨⟨Hi, Hw, Ho⟩, Hrest⟩
  iapply ((K (F := F)).wp_run (D (F := F)) 𝒱 (EH := EH) (P := P (fI m) (fW m)) κ d 0) $$ [Hst Hi Hw Ho Hb Hrest Hts HG]
  isplitr; · iexact Hctx
  isplitl [Hst]; · iexact Hst
  isplitl [Hi Hw Ho]
  · iapply (st_of_whole (fI m) (fW m) d (VA m d main_v8))
    isplitl [Hi]; · iexact Hi
    isplitl [Hw] <;> iassumption
  iintro ⟨Hst, Hdn⟩
  ihave Hdn' := (whole_of_dn (fI m) (fW m) d) $$ Hdn
  icases Hdn' with ⟨Hi, Hw, Ho⟩
  iapply (wp_hlo_within 𝒱 (SparseCore.T d) none Set.univ (op := opMat) (S := ucRefs) (by
      rw [reshape_bufs, Finset.insert_subset_iff, Finset.singleton_subset_iff]; exact ⟨mem_ucRefs rfl, mem_ucRefs rfl⟩) (V := VB m d)) $$ [Hb Hi Hw Ho Hrest]
  · isplitl [Hb]; · iexact Hb
    rw [held_sc, held_rest, VB_v3, VB_v7, VB_v8]
    isplitl [Hi Hw Ho]
    · isplitl [Hi]; · iexact Hi
      isplitl [Hw] <;> iassumption
    iexact Hrest
  iintro ⟨Hb, Hheld⟩
  rw [wp_ret]; imodintro
  ihave Hst' := (show ((K (F := F)).tcSt EH d ((0 : Fin 1).val + 1) : sProp 𝕄) ⊢ _ from tcSt_owes (F := F) d) $$ Hst
  icases Hst' with ⟨HO, Hst⟩
  ihave Hlev := (SparseCore.Cfg.ctx_levAts κ) $$ Hctx
  unfold G
  icases HG with ⟨Hg, Ht⟩
  iapply (wp_region (VC m) d)
  isplitl [Hb]; · iexact Hb
  isplitl [Hheld]; · iexact Hheld
  isplitl [HO]; · iexact HO
  isplitl [Hlev]; · iexact Hlev
  isplitl [Hg]; · iexact Hg
  isplitl [Ht]; · iexact Ht
  iintro ⟨Hb, Hheld, HO⟩
  iapply (wp_hlo_within 𝒱 (SparseCore.T d) none Set.univ (op := opSlice) (S := ucRefs) (by
      rw [unary_bufs, Finset.insert_subset_iff, Finset.singleton_subset_iff]; exact ⟨mem_ucRefs rfl, mem_ucRefs rfl⟩) (V := Vp (VC m) d)) $$ [Hb Hheld]
  · isplitl [Hb] <;> iassumption
  iintro ⟨Hb, Hheld⟩
  rw [wp_ret]; imodintro; imodintro
  isplitl [Hst HO]; · iapply Hst; iexact HO
  isplitl [Hheld]; · iexact Hheld
  isplitl [Hb] <;> iassumption

/-! ## The run of the program -/

/-- The launch's ghost state: the handshakes', the staging cells', no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem hu₀ (gI : (d : Dev nD) → Buf (Elt F) (iLoc d)) (gW : (d : Dev nD) → Buf (Elt F) (wLoc d)) : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P gI gW).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [show (bigSep Finset.univ (G (F := F)) : sProp 𝕄) = iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => Pipeline.toksInit (Pipeline.pin (pcfgs (F := F)) adm) EP p c)) from by
      rw [← bigSep_sep']
      exact bigSep_congr fun c _ => by rw [bigSep_univ_of_subsingleton (0 : Fin 1), bigSep_univ_of_subsingleton (0 : Fin 1)]; rfl]
    isplitl [Hg] <;> iassumption
  rw [show (bigSep Finset.univ fun thr : Thread nD τ => bigSep Finset.univ fun q : Fin 1 => (P (F := F) gI gW).x q thr) = (iprop(emp) : sProp 𝕄) from
    (bigSep_congr fun _ _ => bigSep_univ_of_subsingleton (0 : Fin 1)).trans (bigSep_emp_const _)]
  iempintro

/-- What a final state shows: each lasting buffer's last contents. -/
def fq (d : Dev nD) (s' : Phys nD τ sig (Elt F)) : Prop := ∀ b ∈ ucRefs, s'.mem.mem (d, b) = VE m d b

theorem hfin (d : Dev nD) (s' : Phys nD τ sig (Elt F)) : iprop(FIN m d ∗ SI s') ⊢ (⌜fq m d s'⌝ : sProp 𝕄) := by
  unfold FIN held
  iintro ⟨Hh, HSI⟩
  ihave Hr := (pointsTo_read_all ucRefs (fun b => ((d, b) : Loc nD τ sig)) (fun b => VE m d b) s') $$ [Hh HSI]
  · isplitl [Hh] <;> iassumption
  icases Hr with ⟨%ha, -⟩
  ipureintro; exact ha

/-- Every run ends with each lasting buffer at its last contents and every semaphore at zero. -/
theorem run_main (hI : ∀ d y, (fI m d y).toNat < 4096) :
    θ_run (Cert.KernelIdeal.defs (F := F)) (Cert.KernelIdeal.threads (F := F)) ⟨m, fun _ => 0, ρ⟩
      fun r => (∀ d : Dev nD, ∀ b ∈ ucRefs, r.2.mem (d, b) = VE m d b) ∧ r.2.sem = fun _ => 0 :=
  SparseCore.Cfg.θ_run_sc_quiescent (K := K (F := F)) (D := D (F := F)) (𝒱 := 𝒱) (EH := EH) (P := P (fI m) (fW m)) (A := ∅) facts v₀
    (fun q hq => match q with | 0 => nomatch hq)
    (fun q _ => match q with | 0 => tileObl (fI m) (fW m) hI)
    (fun q _ => match q with | 0 => SparseCore.Cfg.VecSplit.of_plain (vecSplit (fI m) (fW m)))
    m ρ main (G (F := F)) (FIN m) (u₀ (F := F)) (sep_elim_left.trans (hu₀ (fI m) (fW m))) (hmain m ρ) (fq m) (hfin m) _ (fun _ h hz => ⟨h, hz⟩)

end Cert.Proof.KernelIdeal

end
-- ==== Proof.Ideal.Host.lean ====
/-
  What the host operations leave: the padded and re-laid inputs the launch reads, the arguments untouched, and every
  column number in range when the precondition says so.
-/
module

public import proofs.«01_k».proof.Proof.Ideal.Main
public import Idealize.ShloMosaic.Lib.Pointwise

@[expose] public section

noncomputable section

namespace Cert.Proof.KernelIdeal

open Cert.KernelIdeal Cert.KernelIdeal.Gen
open Idealize.ShloMosaic Idealize.ShloMosaic.TcCoe
open Idealize.ShloMosaic.StableHlo
open Idealize.SL.Sem

variable {F : FTy → Type} [FloatOps F]

/-- A padded input re-laid in blocks of sixteen classes, the class fastest. -/
def relay {α : Type} (x : S1024x64.Idx → α) : S65536.Idx → α :=
  shapeCast S65536 (transpose S64x64x16 [0, 2, 1] (shapeCast S64x16x64 x shapeCasts_S1024x64_S64x16x64) transposes_S64x16x64_S64x64x16_0_2_1)
    shapeCasts_S64x64x16_S65536

/-- The rows from 1000 to 1023 filled with a value. -/
def fill {α : Type} (x : S1000x64.Idx → α) (v : S_.Idx → α) : S1024x64.Idx → α :=
  pad S1024x64 ![0, 0] ![24, 0] ![0, 0] x v pads_S1000x64_S1024x64_0240_000 h_S_

theorem relay_apply {α : Type} (x : S1024x64.Idx → α) (y : S65536.Idx) :
    relay x y = x (ix2 ⟨(y 0).val / 1024 * 16 + (y 0).val % 16, by have := (y 0).isLt; change _ < 65536 at this; omega⟩
      ⟨(y 0).val / 16 % 64, by omega⟩) := by
  unfold relay
  pointwise

theorem fill_apply {α : Type} (x : S1000x64.Idx → α) (v : S_.Idx → α) (y : S1024x64.Idx) :
    fill x v y = if h : (y 0).val < 1000 then x (ix2 ⟨(y 0).val, h⟩ (y 1)) else v (Shape.Idx.first h_S_) := by
  unfold fill
  pointwise

variable (m : (ℓ : Loc nD τ sig) → Buf (Elt F) ℓ) (d : Dev nD)

/-- The launch reads the column numbers, filled with zeros and re-laid, -/
theorem fI_eq : fI m d = relay (fill (m (d, main_arg2)) (constantI S_ 32 0#32)) := by
  show after opsPre (V0 m d) main_v3 = _
  unfold opsPre
  after_results
  rfl

/-- and the weights likewise. -/
theorem fW_eq : fW m d = relay (fill (m (d, main_arg1)) (sitofp .f32 (constantI S_ 32 0#32))) := by
  show after opsPre (V0 m d) main_v7 = _
  unfold opsPre
  after_results
  rfl

/-- An argument is never written. -/
theorem VE_arg (b : Ref sig .tc) (hb : VA m d b = V0 m d b) (h8 : b ≠ main_v8) (h9 : b ≠ main_v9) (h10 : b ≠ main_v10) (h11 : b ≠ main_v11) :
    VE m d b = m (d, b) := by
  unfold VE
  rw [unary_result_ne' _ _ _ _ h11, Vp_ne _ _ _ h10]
  unfold VC
  rw [reshape_result_ne' _ _ _ _ _ h9]
  unfold VB
  rw [Function.update_of_ne fun e => h8 (Proc.devRef_injective .tc e), hb]
  rfl

theorem VE_arg0 : VE m d main_arg0 = m (d, main_arg0) := by
  refine VE_arg m d _ ?_ (by decide) (by decide) (by decide) (by decide)
  unfold VA opsPre
  after_results

theorem VE_arg1 : VE m d main_arg1 = m (d, main_arg1) := by
  refine VE_arg m d _ ?_ (by decide) (by decide) (by decide) (by decide)
  unfold VA opsPre
  after_results

theorem VE_arg2 : VE m d main_arg2 = m (d, main_arg2) := by
  refine VE_arg m d _ ?_ (by decide) (by decide) (by decide) (by decide)
  unfold VA opsPre
  after_results

/-- Column numbers in range stay so when filled with zeros and re-laid. -/
theorem fI_lt (h : ∀ i, (m (d, main_arg2) i).toNat < 4096) (y : S65536.Idx) : (fI m d y).toNat < 4096 := by
  rw [fI_eq, relay_apply, fill_apply]
  split
  · exact h _
  · decide

/-- With every column number in range the program runs to the end, its arguments as they were and every semaphore at zero. -/
theorem run_frame [∀ e, Nonempty (Elt F e)] (ρ : Dev nD → PrngReg) (h : ∀ d i, (m (d, main_arg2) i).toNat < 4096) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run _ _ _).mono (fun r hr => ⟨fun c => ⟨(hr.1 c _ (mem_ucRefs rfl)).trans (VE_arg0 m c), (hr.1 c _ (mem_ucRefs rfl)).trans (VE_arg1 m c),
    (hr.1 c _ (mem_ucRefs rfl)).trans (VE_arg2 m c)⟩, hr.2⟩) (run_main m ρ fun d y => fI_lt m d (h d) y)

end Cert.Proof.KernelIdeal
-- ==== Proof.Frames.lean ====
/-
  The frames: each program runs to the end, its arguments as they were and every semaphore at zero.
-/
module

public import proofs.«01_k».proof.Defs
public import proofs.«01_k».proof.Proof.Pre
public import proofs.«01_k».proof.Proof.Ideal.Host
public import proofs.«01_k».proof.Proof.Bits.Host
public import proofs.«01_k».proof.Proof.Gen.ReferenceIdeal.Run
public import Idealize.ShloMosaic.Lib.Quiescent

@[expose] public section

noncomputable section

namespace Cert.Proof

open Idealize.ShloMosaic Idealize.SL.Sem

variable [Cert.Pre_in_range.Facts] [Cert.Pre_finite_and_in_range.Facts]

attribute [local instance] Cert.Kernel.Gen.facts Cert.KernelIdeal.Gen.facts Cert.ReferenceIdeal.Gen.facts

theorem frame_kernel : Cert.quiescent_Kernel := fun m ρ h =>
  Cert.Proof.Kernel.run_frame (F := Bits) m ρ fun d i => in_range (h d) i

theorem frame_kernelIdeal : Cert.quiescent_KernelIdeal := fun m ρ h =>
  Cert.Proof.KernelIdeal.run_frame (F := Ideal) m ρ fun d i => in_range (h d) i

theorem frame_kernelIdeal_finite : Cert.quiescent_KernelIdeal_pre_finite_and_in_range := fun m ρ h =>
  Cert.Proof.KernelIdeal.run_frame (F := Ideal) m ρ fun d i => (finite_and_in_range (h d)).2.2 i

theorem frame_referenceIdeal : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

theorem frame_referenceIdeal_finite : Cert.quiescent_ReferenceIdeal_pre_finite_and_in_range := fun m ρ _ =>
  frame_referenceIdeal m ρ trivial

end Cert.Proof
-- ==== Proof.Ideal.Sums.lean ====
/-
  The accumulator over the extended reals as a sum, and the exchange of the two sums: a row of inputs times the table's
  row is the sum over the supports.
-/
module

public import proofs.«01_k».proof.Proof.Ideal.Host
public import Idealize.ShloMosaic.PureOps.Ideal

@[expose] public section

noncomputable section

namespace Cert.Proof.KernelIdeal

open Cert.KernelIdeal Cert.KernelIdeal.Gen
open Idealize.ShloMosaic

/-- The accumulator after `n` scatters: the weights whose column is the word's, over the first `n` supports. -/
theorem accN_apply (v : S1024.Idx → BitVec 32) (w : S1024.Idx → Ideal .f32) (n : ℕ) (y : S65536.Idx) :
    accN (F := Ideal) v w n y
      = ∑ j ∈ Finset.range n, if (rowOf v j (laneOf y)).toNat = colOf y then (rowOf w j (laneOf y) : EReal) else 0 := by
  induction n with
  | zero => exact Ideal.ofBits_zero_f32
  | succ n ih =>
    rw [Finset.sum_range_succ, ← ih]
    show (if _ then _ else _) = _
    split
    · rfl
    · rw [add_zero]

/-- One entry of a block of an input laid out in blocks: support `j` of class `n`. -/
theorem rowOf_blkOf_relay {α : Type} (x : S1024x64.Idx → α) (n : Fin 1024) (j : Fin 64) (l : S16.Idx) (b : ℕ) (hb : b = n.val / 16) (hl : (l 0).val = n.val % 16) :
    rowOf (blkOf (relay x) b) j.val l = x (ix2 n j) := by
  unfold rowOf blkOf
  rw [relay_apply]
  have hn := n.isLt
  have hj := j.isLt
  have e : ((Shape.ofLane (d := ![65536]) (⟨(1024 * b + ((Shape.ofLane (d := ![1024]) (⟨(16 * j.val + (l 0).val) % 1024, Nat.mod_lt _ (by decide)⟩ : Fin 1024)) 0).val) % 65536, Nat.mod_lt _ (by decide)⟩ : Fin 65536)) 0).val
      = 1024 * (n.val / 16) + 16 * j.val + n.val % 16 := by
    show (1024 * b + (16 * j.val + (l 0).val) % 1024) % 65536 = _
    rw [hb, hl]; omega
  congr 1
  have h0 : ∀ k, k = 1024 * (n.val / 16) + 16 * j.val + n.val % 16 → k / 1024 * 16 + k % 16 = n.val := fun k hk => by omega
  have h1 : ∀ k, k = 1024 * (n.val / 16) + 16 * j.val + n.val % 16 → k / 16 % 64 = j.val := fun k hk => by omega
  exact congrArg₂ ix2 (Fin.ext (h0 _ e)) (Fin.ext (h1 _ e))

/-- The table at class `n` and column `c`: the weights of the class whose column number is `c`. -/
theorem WT_apply (cm : S1024x64.Idx → BitVec 32) (w : S1024x64.Idx → Ideal .f32) (n : Fin 1024) (c : Fin 4096) (y : S4194304.Idx) (hy : (y 0).val = n.val * 4096 + c.val) :
    WT (F := Ideal) (relay cm) (relay w) y = ∑ j : Fin 64, if (cm (ix2 n j)).toNat = c.val then (w (ix2 n j) : EReal) else 0 := by
  unfold WT
  have hn := n.isLt
  have hc := c.isLt
  rw [accN_apply, Finset.sum_range]
  refine Finset.sum_congr rfl fun j _ => ?_
  have hb : (y 0).val / 65536 = n.val / 16 := by omega
  have hl : ((laneOf (Shape.ofLane (d := ![65536]) (⟨(y 0).val % 65536, Nat.mod_lt _ (by decide)⟩ : Fin 65536))) 0).val = n.val % 16 := by
    show (y 0).val % 65536 / 4096 = _
    omega
  have hcol : colOf (Shape.ofLane (d := ![65536]) (⟨(y 0).val % 65536, Nat.mod_lt _ (by decide)⟩ : Fin 65536)) = c.val := by
    show (y 0).val % 65536 % 4096 = _
    omega
  rw [rowOf_blkOf_relay cm n j _ _ hb hl, rowOf_blkOf_relay w n j _ _ hb hl, hcol]

theorem coe_sum {ι : Type} (s : Finset ι) (f : ι → ℝ) : ((∑ i ∈ s, f i : ℝ) : EReal) = ∑ i ∈ s, (f i : EReal) := by
  induction s using Finset.cons_induction with
  | empty => rfl
  | cons a s h ih => rw [Finset.sum_cons, Finset.sum_cons, EReal.coe_add, ih]

/-- A product with a table built by adding weights into columns is the sum over the supports of input times weight,
    when every entry is real. -/
theorem sum_exchange {K J : ℕ} (x : Fin K → EReal) (w : Fin J → EReal) (p : Fin J → Fin K) (hx : ∀ k, ∃ r : ℝ, x k = r) (hw : ∀ j, ∃ r : ℝ, w j = r) :
    ∑ k, x k * ∑ j, (if (p j).val = k.val then w j else 0) = ∑ j, x (p j) * w j := by
  choose xr hxr using hx
  choose wr hwr using hw
  have hin : ∀ k, (∑ j, (if (p j).val = k.val then w j else 0)) = ((∑ j, (if p j = k then wr j else 0) : ℝ) : EReal) := fun k => by
    rw [coe_sum]
    refine Finset.sum_congr rfl fun j _ => ?_
    by_cases h : p j = k
    · rw [if_pos h, if_pos (congrArg Fin.val h), hwr]
    · rw [if_neg h, if_neg fun e => h (Fin.ext e)]; rfl
  simp only [hin]
  simp only [hxr, hwr, ← EReal.coe_mul, ← coe_sum]
  refine congrArg _ ?_
  simp only [Finset.mul_sum]
  rw [Finset.sum_comm]
  refine Finset.sum_congr rfl fun j _ => ?_
  simp

end Cert.Proof.KernelIdeal
-- ==== Proof.Ideal.Value.lean ====
/-
  The program's result over the extended reals, entry by entry: the exponential of the sum over the supports of input
  times weight.
-/
module

public import proofs.«01_k».proof.Proof.Ideal.Sums
public import Idealize.ShloMosaic.Lib.Pipeline.ValueKit.Geometry

@[expose] public section

noncomputable section

namespace Cert.Proof.KernelIdeal

open Cert.KernelIdeal Cert.KernelIdeal.Gen
open Idealize.ShloMosaic Idealize.ShloMosaic.TcCoe
open Idealize.ShloMosaic.StableHlo

/-- The block product at an entry. -/
theorem expDot_apply (x : Vec Ideal S1024x4096 .f32) (w : Vec Ideal S256x4096 .f32) (y : S1024x256.Idx) :
    expDot (F := Ideal) x w y = Ideal.exp (∑ k : Fin 4096, x (ix2 (y 0) k) * w (ix2 (y 1) k)) := by
  unfold expDot
  pointwise

/-- The whole product at an entry. -/
def prodExp (x : Vec Ideal S1024x4096 .f32) (w : Vec Ideal S1024x4096 .f32) : Vec Ideal S1024x1024 .f32 :=
  fun y => Ideal.exp (∑ k : Fin 4096, x (ix2 (y 0) k) * w (ix2 (y 1) k))

variable (V : Dev nD → Valuation τ sig (Elt Ideal)) (m : (ℓ : Loc nD τ sig) → Buf (Elt Ideal) ℓ)

/-- The TensorCore call leaves the whole product. -/
theorem arr_eq (c : Dev nD) : (dat V c).arrAt 2 cfg1.N = prodExp (V c main_arg0) (V c main_v9) := by
  refine (dat V c).arrAt_eq_of_covers 2 _ (by decide +kernel) fun t hf y => ?_
  blk_simp
  show outBlk V c t _ = _
  unfold outBlk
  rw [expDot_apply]
  unfold prodExp
  refine congrArg Ideal.exp (Finset.sum_congr rfl fun k _ => ?_)
  blk_simp [iblk]
  have e0 : ∀ t : Fin cfg1.N, win1_0.index t = ![0, 0] := by decide +kernel
  have e1 : ∀ t : Fin cfg1.N, win1_1.index t = ![t.val, 0] := by decide +kernel
  have e2 : ∀ t : Fin cfg1.N, win1_2.index t = ![0, t.val] := by decide +kernel
  have h0 : (win1_0.blk t).view.emb (ix2 (y 0) k) = ix2 ((win1_2.blk t).view.emb y 0) k := by
    funext a; apply Fin.ext
    match a with
    | ⟨0, _⟩ => blk_simp [e0, e2]
    | ⟨1, _⟩ => blk_simp [e0, e2]
  have h1 : (win1_1.blk t).view.emb (ix2 (y 1) k) = ix2 ((win1_2.blk t).view.emb y 1) k := by
    funext a; apply Fin.ext
    match a with
    | ⟨0, _⟩ => blk_simp [e1, e2]
    | ⟨1, _⟩ => blk_simp [e1, e2]
  rw [h0, h1]
  rfl

/-- The result from the three arguments. -/
def out (x : Vec Ideal S1024x4096 .f32) (w : Vec Ideal S1000x64 .f32) (cm : S1000x64.Idx → BitVec 32) (hcm : ∀ i, (cm i).toNat < 4096) :
    Vec Ideal S1024x1000 .f32 :=
  fun y => Ideal.exp (∑ j : Fin 64, x (ix2 (y 0) ⟨(cm (ix2 (y 1) j)).toNat, hcm _⟩) * w (ix2 (y 1) j))

/-- The matrix the TensorCore call reads: class `n`, column `c`. -/
theorem VC_v9 (d : Dev nD) (n : Fin 1024) (c : Fin 4096) :
    VC m d main_v9 (ix2 n c) = ∑ j : Fin 64, if (fill (m (d, main_arg2)) (constantI S_ 32 0#32) (ix2 n j)).toNat = c.val
      then (fill (m (d, main_arg1)) (sitofp (F := Ideal) .f32 (constantI S_ 32 0#32)) (ix2 n j) : EReal) else 0 := by
  have e : VC m d main_v9 = shapeCast S1024x4096 (WT (fI m d) (fW m d)) shapeCasts_S4194304_S1024x4096 := by
    unfold VC
    rw [reshape_result', VB_v8]
    rfl
  rw [e, fI_eq, fW_eq]
  pointwise
  exact WT_apply _ _ n c _ rfl

theorem VC_arg0 (d : Dev nD) : VC m d main_arg0 = m (d, main_arg0) := by
  unfold VC
  rw [reshape_result_ne' _ _ _ _ _ (by decide)]
  unfold VB
  rw [Function.update_of_ne (by decide)]
  unfold VA opsPre
  after_results
  rfl

/-- The program leaves that result. -/
theorem VE_v11 (d : Dev nD) (hx : ∀ i, ∃ r : ℝ, m (d, main_arg0) i = (r : EReal)) (hw : ∀ i, ∃ r : ℝ, m (d, main_arg1) i = (r : EReal))
    (hcm : ∀ i, (m (d, main_arg2) i).toNat < 4096) :
    VE m d main_v11 = out (m (d, main_arg0)) (m (d, main_arg1)) (m (d, main_arg2)) hcm := by
  unfold VE
  rw [unary_result', Vp_out, arr_eq, VC_arg0]
  funext y
  have hy : (y 1).val < 1000 := (y 1).isLt
  pointwise
  unfold prodExp out
  refine congrArg Ideal.exp ?_
  have hf : ∀ {α : Type} (z : S1000x64.Idx → α) (v : S_.Idx → α) (j : Fin 64), fill z v (ix2 (⟨(y 1).val, by omega⟩ : Fin 1024) j) = z (ix2 (y 1) j) := fun z v j => by
    rw [fill_apply]; exact dif_pos hy
  have hv : ∀ k : Fin 4096, VC m d main_v9 (ix2 (⟨(y 1).val, by omega⟩ : Fin 1024) k)
      = (∑ j : Fin 64, @ite EReal ((m (d, main_arg2) (ix2 (y 1) j)).toNat = k.val) _ (m (d, main_arg1) (ix2 (y 1) j)) 0 : EReal) := fun k => by
    rw [VC_v9]; simp only [hf]
  refine (Finset.sum_congr rfl fun k _ => ?_).trans (sum_exchange (fun k => m (d, main_arg0) (ix2 (y 0) k)) (fun j => m (d, main_arg1) (ix2 (y 1) j))
    (fun j => ⟨(m (d, main_arg2) (ix2 (y 1) j)).toNat, hcm _⟩) (fun _ => hx _) fun _ => hw _)
  exact congrArg (HMul.hMul (α := EReal) (β := EReal) (m (d, main_arg0) (ix2 (y 0) k))) (hv k)

end Cert.Proof.KernelIdeal
-- ==== Proof.Reference.lean ====
/-
  The reference's result over the extended reals, entry by entry.
-/
module

public import proofs.«01_k».proof.Proof.Pre
public import proofs.«01_k».proof.Proof.Gen.ReferenceIdeal.Run
public import Idealize.ShloMosaic.Lib.Pointwise

@[expose] public section

noncomputable section

namespace Cert.Proof.ReferenceIdeal

open Cert.ReferenceIdeal Cert.ReferenceIdeal.Gen
open Idealize.ShloMosaic Idealize.ShloMosaic.TcCoe
open Idealize.SL.Sem

/-- The result from the three arguments. -/
def out (x : Vec Ideal S1024x4096 .f32) (w : Vec Ideal S1000x64 .f32) (cm : S1000x64.Idx → BitVec 32) (hcm : ∀ i, (cm i).toNat < 4096) :
    Vec Ideal S1024x1000 .f32 :=
  fun y => Ideal.exp (∑ j : Fin 64, x (ix2 (y 0) ⟨(cm (ix2 (y 1) j)).toNat, hcm _⟩) * w (ix2 (y 1) j))

/-- How the reference's gather lays its columns out. -/
abbrev gth := gather_S1024x4096_S64000x1_S1024x64000_0_1_n_n_1_1_10241

/-- A word in range is its own clamped value. -/
theorem clamp_eq (b : BitVec 32) (h : b.toNat < 4096) : min b.toInt.toNat (4096 - 1) + 0 + 0 = b.toNat := by
  rw [StableHlo.Predicate.toInt_eq_toNat_of_lt (by omega)]
  omega

/-- The gather reads the column its index names, when the index is in range. -/
theorem gather_apply {α : Type} (x : S1024x4096.Idx → α) (idx : IVec S64000x1 32) (y : S1024x64000.Idx)
    (h : (idx (ix2 (y 1) 0)).toNat < 4096) :
    Host.gather gth x idx y = x (ix2 (y 0) ⟨(idx (ix2 (y 1) 0)).toNat, h⟩) := by
  unfold Host.gather
  refine congrArg x ?_
  have e : gth.siIdx y ⟨0, by decide⟩ = ix2 (y 1) 0 := by
    funext b; apply Fin.ext
    match b with
    | ⟨0, _⟩ => rfl
    | ⟨1, _⟩ => rfl
  funext a; apply Fin.ext
  match a with
  | ⟨0, _⟩ =>
    show 0 + 0 + (y 0).val = (y 0).val
    omega
  | ⟨1, _⟩ =>
    show min (idx (gth.siIdx y ⟨0, _⟩)).toInt.toNat (4096 - 1) + 0 + 0 = (idx (ix2 (y 1) 0)).toNat
    rw [e]
    exact clamp_eq _ h

/-- An index in range is not negative, so its wrapped form is itself. -/
theorem wrap_eq (v z n : IVec S64000 32) (hv : ∀ i, (v i).toNat < 4096) (hz : ∀ i, z i = 0#32) :
    select (cmpi .slt v z) (addi v n) v = v := by
  funext i
  show Scalar.select (IntOp.cmpi .slt (v i) (z i)) _ _ = _
  have h0 : IntOp.cmpi .slt (v i) (z i) ≠ 1#1 := by
    rw [hz, Ne, StableHlo.Predicate.slt_iff_toNat (by have := hv i; omega) (by decide)]
    exact Nat.not_lt_zero _
  rw [ValueIdx.eq_zero_of_ne_one h0]
  rfl

/-- The mask of the indices in range is all ones. -/
theorem mask_eq (v z n : IVec S64000x1 32) (c : IVec S_ 1) (hv : ∀ i, (v i).toNat < 4096) (hz : ∀ i, z i = 0#32) (hn : ∀ i, n i = 4095#32) (hc : ∀ i, c i = 1#1) :
    Host.reduce IntOp.andi (andi (cmpi .sge v z) (cmpi .sle v n)) c reducesTo_S64000x1_S64000_d1 h_S_ = fun _ => 1#1 := by
  funext j
  refine Host.reduce_andi_one _ _ _ _ _ (hc _) fun i => ?_
  show IntOp.andi (IntOp.cmpi .sge (v i) (z i)) (IntOp.cmpi .sle (v i) (n i)) = 1#1
  have h0 := hv i
  rw [hz, hn, (StableHlo.Predicate.sge_iff_toNat (by omega) (by decide)).mpr (Nat.zero_le _), (StableHlo.Predicate.sle_iff_toNat (by omega) (by decide)).mpr (show (v i).toNat ≤ 4095 by omega)]
  rfl

/-- The reference runs to the end with that result, its arguments as they were. -/
theorem run_out (m : (ℓ : Loc nD τ sig) → Buf (Elt Ideal) ℓ) (ρ : Dev nD → PrngReg)
    (hcm : ∀ (c : Dev nD) i, (m ((c.tc : Thread nD τ).loc main_arg2) i).toNat < 4096) :
    θ_run defs (onTc (τ := τ) (main (F := Ideal))) ⟨m, fun _ => 0, ρ⟩ fun r => ∀ c : Dev nD,
      r.2.mem ((c.tc : Thread nD τ).loc main_v7)
          = out (m ((c.tc : Thread nD τ).loc main_arg0)) (m ((c.tc : Thread nD τ).loc main_arg1)) (m ((c.tc : Thread nD τ).loc main_arg2)) (hcm c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run _ _ _).mono (fun r h c => ⟨(h c).1.trans ?_, (h c).2⟩) (Cert.ReferenceIdeal.Value.run (F := Ideal) m ρ)
  have hc := hcm c
  clear h
  have hv : ∀ i, (shapeCast S64000 (m ((c.tc : Thread nD τ).loc main_arg2)) shapeCasts_S1000x64_S64000 i).toNat < 4096 := fun i => hc _
  rw [wrap_eq _ _ _ hv, mask_eq]
  rotate_left
  · intro i; exact hv _
  · intro i; rfl
  · intro i; rfl
  · intro i; rfl
  · intro i; rfl
  funext y
  unfold out
  pointwise
  refine congrArg Ideal.exp (Finset.sum_congr rfl fun j _ => ?_)
  have hi : (broadcastInDim S64000x1 ![0] bcast_S64000_S64000x1_0 (shapeCast S64000 (m ((c.tc : Thread nD τ).loc main_arg2)) shapeCasts_S1000x64_S64000))
      (ix2 (⟨(y 1).val * 64 + j.val, by have := (y 1).isLt; have := j.isLt; simp at *; omega⟩ : Fin 64000) 0) = m ((c.tc : Thread nD τ).loc main_arg2) (ix2 (y 1) j) := by
    pointwise
  refine congrArg (fun z : EReal => HMul.hMul (α := EReal) (β := EReal) z (m ((c.tc : Thread nD τ).loc main_arg1) (ix2 (y 1) j))) ((gather_apply _ _ _ ?_).trans ?_)
  · exact hv _
  · refine congrArg (fun k => m ((c.tc : Thread nD τ).loc main_arg0) (ix2 (y 0) k)) (Fin.ext ?_)
    exact congrArg BitVec.toNat hi

end Cert.Proof.ReferenceIdeal
-- ==== Proof.Algebraic.lean ====
/-
  The two programs give equal results over the extended reals.
-/
module

public import proofs.«01_k».proof.Defs
public import proofs.«01_k».proof.Proof.Pre
public import proofs.«01_k».proof.Proof.Ideal.Value
public import proofs.«01_k».proof.Proof.Reference

@[expose] public section

noncomputable section

namespace Cert.Proof

open Idealize.ShloMosaic Idealize.ShloMosaic.TcCoe Idealize.SL.Sem

variable [Cert.Pre_finite_and_in_range.Facts]

attribute [local instance] Cert.KernelIdeal.Gen.facts Cert.ReferenceIdeal.Gen.facts

/-- The kernel runs to the end with its result, its arguments as they were. -/
theorem KernelIdeal.run_out (m : (ℓ : Loc Cert.KernelIdeal.nD Cert.KernelIdeal.τ Cert.KernelIdeal.sig) → Buf (Elt Ideal) ℓ) (ρ : Dev Cert.KernelIdeal.nD → PrngReg)
    (hx : ∀ d i, ∃ r : ℝ, m (d, Cert.KernelIdeal.main_arg0) i = (r : EReal)) (hw : ∀ d i, ∃ r : ℝ, m (d, Cert.KernelIdeal.main_arg1) i = (r : EReal))
    (hcm : ∀ d i, (m (d, Cert.KernelIdeal.main_arg2) i).toNat < 4096) :
    θ_run (Cert.KernelIdeal.defs (F := Ideal)) (Cert.KernelIdeal.threads (F := Ideal)) ⟨m, fun _ => 0, ρ⟩ fun r => ∀ d : Dev Cert.KernelIdeal.nD,
      r.2.mem (d, Cert.KernelIdeal.main_v11)
          = KernelIdeal.out (m (d, Cert.KernelIdeal.main_arg0)) (m (d, Cert.KernelIdeal.main_arg1)) (m (d, Cert.KernelIdeal.main_arg2)) (hcm d)
        ∧ r.2.mem (d, Cert.KernelIdeal.main_arg0) = m (d, Cert.KernelIdeal.main_arg0)
        ∧ r.2.mem (d, Cert.KernelIdeal.main_arg1) = m (d, Cert.KernelIdeal.main_arg1)
        ∧ r.2.mem (d, Cert.KernelIdeal.main_arg2) = m (d, Cert.KernelIdeal.main_arg2) :=
  (θ_run _ _ _).mono (fun r h d =>
    ⟨(h.1 d _ (KernelIdeal.mem_ucRefs rfl)).trans (KernelIdeal.VE_v11 m d (hx d) (hw d) (hcm d)),
      (h.1 d _ (KernelIdeal.mem_ucRefs rfl)).trans (KernelIdeal.VE_arg0 m d),
      (h.1 d _ (KernelIdeal.mem_ucRefs rfl)).trans (KernelIdeal.VE_arg1 m d),
      (h.1 d _ (KernelIdeal.mem_ucRefs rfl)).trans (KernelIdeal.VE_arg2 m d)⟩)
    (KernelIdeal.run_main (F := Ideal) m ρ fun d y => KernelIdeal.fI_lt m d (hcm d) y)

/-- Both results are one formula, so equal arguments give equal results. -/
theorem out_eq {x x' : Vec Ideal Cert.KernelIdeal.S1024x4096 .f32} {w w' : Vec Ideal Cert.KernelIdeal.S1000x64 .f32}
    {cm cm' : Cert.KernelIdeal.S1000x64.Idx → BitVec 32} (hx : x' = x) (hw : w' = w) (hcm : cm' = cm) (h : ∀ i, (cm i).toNat < 4096) (h' : ∀ i, (cm' i).toNat < 4096) :
    ReferenceIdeal.out x' w' cm' h' = KernelIdeal.out x w cm h := by
  subst hx hw hcm
  rfl

theorem algebraic : Cert.algebraic_KernelIdeal_ReferenceIdeal_pre_finite_and_in_range := fun m ρ m' ρ' h e => by
  have hp := fun d => finite_and_in_range (h d)
  have hcm : ∀ d i, (m (d, Cert.KernelIdeal.main_arg2) i).toNat < 4096 := fun d i => (hp d).2.2 i
  have hcm' : ∀ (c : Dev Cert.ReferenceIdeal.nD) i, (m' ((c.tc : Thread Cert.ReferenceIdeal.nD Cert.ReferenceIdeal.τ).loc Cert.ReferenceIdeal.main_arg2) i).toNat < 4096 := fun c i => by
    rw [(e c).2.2]; exact hcm c i
  refine ⟨fun d => KernelIdeal.out (m (d, Cert.KernelIdeal.main_arg0)) (m (d, Cert.KernelIdeal.main_arg1)) (m (d, Cert.KernelIdeal.main_arg2)) (hcm d),
    KernelIdeal.run_out m ρ (fun d i => (hp d).1 i) (fun d i => (hp d).2.1 i) hcm, ?_⟩
  exact (θ_run _ _ _).mono (fun r hr c => ⟨(hr c).1.trans (out_eq (e c).1 (e c).2.1 (e c).2.2 (hcm c) (hcm' c)), (hr c).2⟩)
    (ReferenceIdeal.run_out m' ρ' hcm')

end Cert.Proof
-- ==== Proof.lean ====
/-
  The claims together.
-/
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite_and_in_range

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Cert.Pre_finite_and_in_range.Gen.facts, frame_kernel, frame_kernelIdeal, frame_kernelIdeal_finite, frame_referenceIdeal,
    frame_referenceIdeal_finite, trivial, algebraic⟩

end Cert.Proof

end
